-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_and_boundaries [hPre_scores_and_boundaries : Cert.Pre_scores_and_boundaries.Facts] (m : (ℓ : Loc Cert.KernelIdeal.nD Cert.KernelIdeal.τ Cert.KernelIdeal.sig) → Buf (Elt Ideal) ℓ) : Prop :=
  ∀ c : Dev Cert.KernelIdeal.nD,
    (Cert.Pre_scores_and_boundaries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_and_boundaries [hPre_scores_and_boundaries : Cert.Pre_scores_and_boundaries.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_and_boundaries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_scores_and_boundaries [hKernelIdeal : Cert.KernelIdeal.Facts] [hPre_scores_and_boundaries : Cert.Pre_scores_and_boundaries.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_and_boundaries m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_scores_and_boundaries [hReferenceIdeal : Cert.ReferenceIdeal.Facts] [hPre_scores_and_boundaries : Cert.Pre_scores_and_boundaries.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_and_boundaries m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_scores_and_boundaries [hKernelIdeal : Cert.KernelIdeal.Facts] [hReferenceIdeal : Cert.ReferenceIdeal.Facts] [hPre_scores_and_boundaries : Cert.Pre_scores_and_boundaries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_and_boundaries m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v146) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_scores_and_boundaries : Cert.Pre_scores_and_boundaries.Facts),
    quiescent_Kernel (hKernel := hKernel)
    ∧ quiescent_KernelIdeal (hKernelIdeal := hKernelIdeal)
    ∧ quiescent_KernelIdeal_pre_scores_and_boundaries (hKernelIdeal := hKernelIdeal) (hPre_scores_and_boundaries := hPre_scores_and_boundaries)
    ∧ quiescent_ReferenceIdeal (hReferenceIdeal := hReferenceIdeal)
    ∧ quiescent_ReferenceIdeal_pre_scores_and_boundaries (hReferenceIdeal := hReferenceIdeal) (hPre_scores_and_boundaries := hPre_scores_and_boundaries)
    ∧ preserves_Kernel_KernelIdeal
    ∧ algebraic_KernelIdeal_ReferenceIdeal_pre_scores_and_boundaries (hKernelIdeal := hKernelIdeal) (hReferenceIdeal := hReferenceIdeal) (hPre_scores_and_boundaries := hPre_scores_and_boundaries)
-- ==== Pre_scores_and_boundaries.lean ====
abbrev S4096x256 : Shape := ⟨2, ![4096, 256]⟩
abbrev S17 : Shape := ⟨1, ![17]⟩
abbrev S256x256 : Shape := ⟨2, ![256, 256]⟩
abbrev S256 : Shape := ⟨1, ![256]⟩
abbrev S16 : Shape := ⟨1, ![16]⟩
abbrev S1 : Shape := ⟨1, ![1]⟩
abbrev S_ : Shape := ⟨0, ![]⟩
abbrev S4096 : Shape := ⟨1, ![4096]⟩
abbrev S1x4096 : Shape := ⟨2, ![1, 4096]⟩
abbrev S16x1 : Shape := ⟨2, ![16, 1]⟩
abbrev S16x4096 : Shape := ⟨2, ![16, 4096]⟩
abbrev S1x256 : Shape := ⟨2, ![1, 256]⟩

class Facts : Prop where
  slices_S17_S16_1 : S17.Slices ![1] S16
  slices_S17_S16_0 : S17.Slices ![0] S16
  slices_S17_S1_0 : S17.Slices ![0] S1
  shapeCasts_S1_S_ : S1.ShapeCasts S_
  slices_S17_S1_16 : S17.Slices ![16] S1
  bcast_S_S16 : S_.BroadcastsInDim S16 (![] : Fin 0 → Fin S16.rank)
  reducesTo_S16_S_d0 : S16.ReducesTo [0] S_
  h_S_ : 0 < S_.numel
  bcast_S4096_S1x4096_1 : S4096.BroadcastsInDim S1x4096 (![1] : Fin 1 → Fin S1x4096.rank)
  bcast_S16_S16x1_0 : S16.BroadcastsInDim S16x1 (![0] : Fin 1 → Fin S16x1.rank)
  bcast_S1x4096_S16x4096_0_1 : S1x4096.BroadcastsInDim S16x4096 (![0, 1] : Fin 2 → Fin S16x4096.rank)
  bcast_S16x1_S16x4096_0_1 : S16x1.BroadcastsInDim S16x4096 (![0, 1] : Fin 2 → Fin S16x4096.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S_S16x4096 : S_.BroadcastsInDim S16x4096 (![] : Fin 0 → Fin S16x4096.rank)
  reducesTo_S16x4096_S16_d1 : S16x4096.ReducesTo [1] S16
  reducesTo_S4096_S_d0 : S4096.ReducesTo [0] S_
  dot_S4096x256_S256x256_S4096x256_1_0_0_1_n_n_wf : DotDims.WF S4096x256 S256x256 S4096x256 [1] [0] [0] [1] [] []
  dot_S4096x256_S256_S4096_1_0_0_n_n_n_wf : DotDims.WF S4096x256 S256 S4096 [1] [0] [0] [] [] []

variable [Facts]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256_S4096_1_0_0_n_n_n : DotDims S4096x256 S256 S4096 where
  lhsContracting := [1]
  rhsContracting := [0]
  lhsNonContracting := [0]
  rhsNonContracting := []
  lhsBatch := []
  rhsBatch := []
  wf := dot_S4096x256_S256_S4096_1_0_0_n_n_n_wf
def fn_where {F : FTy → Type} [FloatOps F] (arg0 : IVec S16x4096 1) (arg1 : FVec F S1x4096 .f32) (arg2 : FVec F S_ .f32) : FVec F S16x4096 .f32 :=
  let v0 : FVec F S_ .f32 := id arg2
  let v1 : FVec F S16x4096 .f32 := broadcastInDim S16x4096 ![0, 1] bcast_S1x4096_S16x4096_0_1 arg1
  let v2 : FVec F S16x4096 .f32 := broadcastInDim S16x4096 ![] bcast_S_S16x4096 v0
  let v3 : FVec F S16x4096 .f32 := select arg0 v1 v2
  v3

def fn_part4 {F : FTy → Type} [FloatOps F] (main_v60 : IVec S_ 1) (main_v70 : FVec F S16 .f32) (main_v71 : FVec F S_ .f32) (main_v73 : IVec S16 1) (main_v74 : FVec F S_ .f32) (main_cst_18 : FVec F S_ .f32) : IVec S_ 1 :=
  let main_v75 : IVec S_ 1 := cmpf .olt main_v74 main_cst_18
  let main_cst_19 : FVec F S_ .f32 := constant S_ .f32 0x428A0000#32
  let main_v76 : FVec F S_ .f32 := subf main_v71 main_cst_19
  let main_v77 : FVec F S16 .f32 := broadcastInDim S16 ![] bcast_S_S16 main_v76
  let main_v78 : IVec S16 1 := cmpf .oge main_v70 main_v77
  let main_v79 : IVec S16 1 := broadcastInDim S16 ![] bcast_S_S16 main_v75
  let main_v80 : IVec S16 1 := andi main_v79 main_v78
  let main_v81 : IVec S16 1 := ori main_v73 main_v80
  let main_c_20 : IVec S_ 1 := constantI S_ 1 1#1
  let main_v82 : IVec S_ 1 := (fun x v => Host.reduce IntOp.andi x v reducesTo_S16_S_d0 h_S_) main_v81 main_c_20
  let main_v83 : IVec S_ 1 := andi main_v60 main_v82
  main_v83

def fn_part3 {F : FTy → Type} [FloatOps F] (main_arg6 : FVec F S256x256 .f32) (main_arg7 : FVec F S256 .f32) (main_arg10 : FVec F S256 .f32) (main_v2 : IVec S16 32) (main_v17 : IVec S_ 1) (main_v31 : IVec S16x4096 1) (main_v37 : FVec F S4096x256 .f32) (main_v50 : IVec S16 1) (main_v57 : IVec S16 1) : IVec S_ 1 :=
  let main_v58 : IVec S16 1 := ori main_v50 main_v57
  let main_c_12 : IVec S_ 1 := constantI S_ 1 1#1
  let main_v59 : IVec S_ 1 := (fun x v => Host.reduce IntOp.andi x v reducesTo_S16_S_d0 h_S_) main_v58 main_c_12
  let main_v60 : IVec S_ 1 := andi main_v17 main_v59
  let main_v61 : FVec F S4096x256 .f32 := (fun l r => Host.dotGeneral dot_S4096x256_S256x256_S4096x256_1_0_0_1_n_n none l r) main_v37 main_arg6
  let main_v62 : FVec F S1x256 .f32 := broadcastInDim S1x256 ![1] bcast_S256_S1x256_1 main_arg7
  let main_v63 : FVec F S4096x256 .f32 := broadcastInDim S4096x256 ![0, 1] bcast_S1x256_S4096x256_0_1 main_v62
  let main_v64 : FVec F S4096x256 .f32 := addf main_v61 main_v63
  let main_cst_13 : FVec F S_ .f32 := constant S_ .f32 0x00000000#32
  let main_v65 : FVec F S4096x256 .f32 := broadcastInDim S4096x256 ![] bcast_S_S4096x256 main_cst_13
  let main_v66 : FVec F S4096x256 .f32 := maximumf main_v64 main_v65
  let main_v67 : FVec F S4096 .f32 := (fun l r => Host.dotGeneral dot_S4096x256_S256_S4096_1_0_0_n_n_n none l r) main_v66 main_arg10
  let main_v68 : FVec F S1x4096 .f32 := broadcastInDim S1x4096 ![1] bcast_S4096_S1x4096_1 main_v67
  let main_cst_14 : FVec F S_ .f32 := constant S_ .f32 0xFF800000#32
  let main_v69 : FVec F S16x4096 .f32 := fn_where (F := F) main_v31 main_v68 main_cst_14
  let main_cst_15 : FVec F S_ .f32 := constant S_ .f32 0xFF800000#32
  let main_v70 : FVec F S16 .f32 := (fun x v => Host.reduce FloatOps.maximumf x v reducesTo_S16x4096_S16_d1 h_S_) main_v69 main_cst_15
  let main_cst_16 : FVec F S_ .f32 := constant S_ .f32 0xFF800000#32
  let main_v71 : FVec F S_ .f32 := (fun x v => Host.reduce FloatOps.maximumf x v reducesTo_S4096_S_d0 h_S_) main_v67 main_cst_16
  let main_c_17 : IVec S_ 32 := constantI S_ 32 0#32
  let main_v72 : IVec S16 32 := broadcastInDim S16 ![] bcast_S_S16 main_c_17
  let main_v73 : IVec S16 1 := cmpi .eq main_v2 main_v72
  let main_v74 : FVec F S_ .f32 := Host.absf main_v71
  let main_cst_18 : FVec F S_ .f32 := constant S_ .f32 0x7F800000#32
  fn_part4 (F := F) main_v60 main_v70 main_v71 main_v73 main_v74 main_cst_18

def fn_part2 {F : FTy → Type} [FloatOps F] (main_arg6 : FVec F S256x256 .f32) (main_arg7 : FVec F S256 .f32) (main_arg8 : FVec F S256 .f32) (main_arg10 : FVec F S256 .f32) (main_v2 : IVec S16 32) (main_v17 : IVec S_ 1) (main_v31 : IVec S16x4096 1) (main_v37 : FVec F S4096x256 .f32) (main_v38 : FVec F S4096x256 .f32) (main_v40 : FVec F S4096x256 .f32) : IVec S_ 1 :=
  let main_v41 : FVec F S4096x256 .f32 := addf main_v38 main_v40
  let main_cst_5 : FVec F S_ .f32 := constant S_ .f32 0x00000000#32
  let main_v42 : FVec F S4096x256 .f32 := broadcastInDim S4096x256 ![] bcast_S_S4096x256 main_cst_5
  let main_v43 : FVec F S4096x256 .f32 := maximumf main_v41 main_v42
  let main_v44 : FVec F S4096 .f32 := (fun l r => Host.dotGeneral dot_S4096x256_S256_S4096_1_0_0_n_n_n none l r) main_v43 main_arg8
  let main_v45 : FVec F S1x4096 .f32 := broadcastInDim S1x4096 ![1] bcast_S4096_S1x4096_1 main_v44
  let main_cst_6 : FVec F S_ .f32 := constant S_ .f32 0xFF800000#32
  let main_v46 : FVec F S16x4096 .f32 := fn_where (F := F) main_v31 main_v45 main_cst_6
  let main_cst_7 : FVec F S_ .f32 := constant S_ .f32 0xFF800000#32
  let main_v47 : FVec F S16 .f32 := (fun x v => Host.reduce FloatOps.maximumf x v reducesTo_S16x4096_S16_d1 h_S_) main_v46 main_cst_7
  let main_cst_8 : FVec F S_ .f32 := constant S_ .f32 0xFF800000#32
  let main_v48 : FVec F S_ .f32 := (fun x v => Host.reduce FloatOps.maximumf x v reducesTo_S4096_S_d0 h_S_) main_v44 main_cst_8
  let main_c_9 : IVec S_ 32 := constantI S_ 32 0#32
  let main_v49 : IVec S16 32 := broadcastInDim S16 ![] bcast_S_S16 main_c_9
  let main_v50 : IVec S16 1 := cmpi .eq main_v2 main_v49
  let main_v51 : FVec F S_ .f32 := Host.absf main_v48
  let main_cst_10 : FVec F S_ .f32 := constant S_ .f32 0x7F800000#32
  let main_v52 : IVec S_ 1 := cmpf .olt main_v51 main_cst_10
  let main_cst_11 : FVec F S_ .f32 := constant S_ .f32 0x428A0000#32
  let main_v53 : FVec F S_ .f32 := subf main_v48 main_cst_11
  let main_v54 : FVec F S16 .f32 := broadcastInDim S16 ![] bcast_S_S16 main_v53
  let main_v55 : IVec S16 1 := cmpf .oge main_v47 main_v54
  let main_v56 : IVec S16 1 := broadcastInDim S16 ![] bcast_S_S16 main_v52
  let main_v57 : IVec S16 1 := andi main_v56 main_v55
  fn_part3 (F := F) main_arg6 main_arg7 main_arg10 main_v2 main_v17 main_v31 main_v37 main_v50 main_v57

def fn_part1 {F : FTy → Type} [FloatOps F] (main_arg0 : FVec F S4096x256 .f32) (main_arg1 : IVec S17 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256 .f32) (main_arg10 : FVec F S256 .f32) (main_v2 : IVec S16 32) (main_v17 : IVec S_ 1) : IVec S_ 1 :=
  let main_v18 : IVec S4096 32 := iotaInDim S4096 32 0
  let main_v19 : IVec S1x4096 32 := broadcastInDim S1x4096 ![1] bcast_S4096_S1x4096_1 main_v18
  let main_v20 : IVec S16 32 := (extractStridedSlice S16 ![0] · slices_S17_S16_0) main_arg1
  let main_v21 : IVec S16x1 32 := broadcastInDim S16x1 ![0] bcast_S16_S16x1_0 main_v20
  let main_v22 : IVec S16x4096 32 := broadcastInDim S16x4096 ![0, 1] bcast_S1x4096_S16x4096_0_1 main_v19
  let main_v23 : IVec S16x4096 32 := broadcastInDim S16x4096 ![0, 1] bcast_S16x1_S16x4096_0_1 main_v21
  let main_v24 : IVec S16x4096 1 := cmpi .sge main_v22 main_v23
  let main_v25 : IVec S1x4096 32 := broadcastInDim S1x4096 ![1] bcast_S4096_S1x4096_1 main_v18
  let main_v26 : IVec S16 32 := (extractStridedSlice S16 ![1] · slices_S17_S16_1) main_arg1
  let main_v27 : IVec S16x1 32 := broadcastInDim S16x1 ![0] bcast_S16_S16x1_0 main_v26
  let main_v28 : IVec S16x4096 32 := broadcastInDim S16x4096 ![0, 1] bcast_S1x4096_S16x4096_0_1 main_v25
  let main_v29 : IVec S16x4096 32 := broadcastInDim S16x4096 ![0, 1] bcast_S16x1_S16x4096_0_1 main_v27
  let main_v30 : IVec S16x4096 1 := cmpi .slt main_v28 main_v29
  let main_v31 : IVec S16x4096 1 := andi main_v24 main_v30
  let main_v32 : FVec F S4096x256 .f32 := (fun l r => Host.dotGeneral dot_S4096x256_S256x256_S4096x256_1_0_0_1_n_n none l r) main_arg0 main_arg2
  let main_v33 : FVec F S1x256 .f32 := broadcastInDim S1x256 ![1] bcast_S256_S1x256_1 main_arg3
  let main_v34 : FVec F S4096x256 .f32 := broadcastInDim S4096x256 ![0, 1] bcast_S1x256_S4096x256_0_1 main_v33
  let main_v35 : FVec F S4096x256 .f32 := addf main_v32 main_v34
  let main_cst : FVec F S_ .f32 := constant S_ .f32 0x00000000#32
  let main_v36 : FVec F S4096x256 .f32 := broadcastInDim S4096x256 ![] bcast_S_S4096x256 main_cst
  let main_v37 : FVec F S4096x256 .f32 := maximumf main_v35 main_v36
  let main_v38 : FVec F S4096x256 .f32 := (fun l r => Host.dotGeneral dot_S4096x256_S256x256_S4096x256_1_0_0_1_n_n none l r) main_v37 main_arg4
  let main_v39 : FVec F S1x256 .f32 := broadcastInDim S1x256 ![1] bcast_S256_S1x256_1 main_arg5
  let main_v40 : FVec F S4096x256 .f32 := broadcastInDim S4096x256 ![0, 1] bcast_S1x256_S4096x256_0_1 main_v39
  fn_part2 (F := F) main_arg6 main_arg7 main_arg8 main_arg10 main_v2 main_v17 main_v31 main_v37 main_v38 main_v40

def fn {F : FTy → Type} [FloatOps F] (main_arg0 : FVec F S4096x256 .f32) (main_arg1 : IVec S17 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256 .f32) (main_arg9 : FVec F S256x256 .f32) (main_arg10 : FVec F S256 .f32) (main_arg11 : FVec F S256x256 .f32) : IVec S_ 1 :=
  let main_v0 : IVec S16 32 := (extractStridedSlice S16 ![1] · slices_S17_S16_1) main_arg1
  let main_v1 : IVec S16 32 := (extractStridedSlice S16 ![0] · slices_S17_S16_0) main_arg1
  let main_v2 : IVec S16 32 := subi main_v0 main_v1
  let main_v3 : IVec S1 32 := (extractStridedSlice S1 ![0] · slices_S17_S1_0) main_arg1
  let main_v4 : IVec S_ 32 := shapeCast S_ main_v3 shapeCasts_S1_S_
  let main_c : IVec S_ 32 := constantI S_ 32 0#32
  let main_v5 : IVec S_ 1 := cmpi .eq main_v4 main_c
  let main_v6 : IVec S1 32 := (extractStridedSlice S1 ![16] · slices_S17_S1_16) main_arg1
  let main_v7 : IVec S_ 32 := shapeCast S_ main_v6 shapeCasts_S1_S_
  let main_c_0 : IVec S_ 32 := constantI S_ 32 4096#32
  let main_v8 : IVec S_ 1 := cmpi .sle main_v7 main_c_0
  let main_v9 : IVec S_ 1 := andi main_v5 main_v8
  let main_c_1 : IVec S_ 32 := constantI S_ 32 0#32
  let main_v10 : IVec S16 32 := broadcastInDim S16 ![] bcast_S_S16 main_c_1
  let main_v11 : IVec S16 1 := cmpi .sge main_v2 main_v10
  let main_c_2 : IVec S_ 1 := constantI S_ 1 1#1
  let main_v12 : IVec S_ 1 := (fun x v => Host.reduce IntOp.andi x v reducesTo_S16_S_d0 h_S_) main_v11 main_c_2
  let main_v13 : IVec S_ 1 := andi main_v9 main_v12
  let main_c_3 : IVec S_ 32 := constantI S_ 32 512#32
  let main_v14 : IVec S16 32 := broadcastInDim S16 ![] bcast_S_S16 main_c_3
  let main_v15 : IVec S16 1 := cmpi .sle main_v2 main_v14
  let main_c_4 : IVec S_ 1 := constantI S_ 1 1#1
  let main_v16 : IVec S_ 1 := (fun x v => Host.reduce IntOp.andi x v reducesTo_S16_S_d0 h_S_) main_v15 main_c_4
  let main_v17 : IVec S_ 1 := andi main_v13 main_v16
  fn_part1 (F := F) main_arg0 main_arg1 main_arg2 main_arg3 main_arg4 main_arg5 main_arg6 main_arg7 main_arg8 main_arg10 main_v2 main_v17
-- ==== Kernel.lean ====
abbrev S4096x256 : Shape := ⟨2, ![4096, 256]⟩
abbrev S17 : Shape := ⟨1, ![17]⟩
abbrev S256x256 : Shape := ⟨2, ![256, 256]⟩
abbrev S256 : Shape := ⟨1, ![256]⟩
abbrev S16 : Shape := ⟨1, ![16]⟩
abbrev S16x1 : Shape := ⟨2, ![16, 1]⟩
abbrev S1x256 : Shape := ⟨2, ![1, 256]⟩
abbrev S16x256 : Shape := ⟨2, ![16, 256]⟩
abbrev S16x4096 : Shape := ⟨2, ![16, 4096]⟩
abbrev S256x512 : Shape := ⟨2, ![256, 512]⟩
abbrev S1x512 : Shape := ⟨2, ![1, 512]⟩
abbrev S4096x512 : Shape := ⟨2, ![4096, 512]⟩
abbrev S1x4096 : Shape := ⟨2, ![1, 4096]⟩
abbrev S1x1x4096 : Shape := ⟨3, ![1, 1, 4096]⟩
abbrev S1 : Shape := ⟨1, ![1]⟩
abbrev S1x1x1 : Shape := ⟨3, ![1, 1, 1]⟩

abbrev nBuf : Space → Nat
  | .hbm => 24
  | .vmem => 16
  | .smem => 0
  | _ => 0

abbrev bufTy : (tb : Table) → Fin (tcTables nBuf tb) → BufTy
  | .hbm, ⟨0, _⟩ => ⟨S4096x256, .f32⟩
  | .hbm, ⟨1, _⟩ => ⟨S17, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S16, .i32⟩
  | .hbm, ⟨13, _⟩ => ⟨S16x1, .i32⟩
  | .hbm, ⟨14, _⟩ => ⟨S16, .i32⟩
  | .hbm, ⟨15, _⟩ => ⟨S16x1, .i32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S16x256, .f32⟩
  | .hbm, ⟨22, _⟩ => ⟨S16x256, .f32⟩
  | .hbm, ⟨23, _⟩ => ⟨S16x256, .f32⟩
  | .local _ .vmem, ⟨0, _⟩ => ⟨S4096x256, .f32⟩
  | .local _ .vmem, ⟨1, _⟩ => ⟨S16x1, .i32⟩
  | .local _ .vmem, ⟨2, _⟩ => ⟨S16x1, .i32⟩
  | .local _ .vmem, ⟨3, _⟩ => ⟨S256x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S16x256, .f32⟩
  | .local _ .vmem, ⟨14, _⟩ => ⟨S16x256, .f32⟩
  | .local _ .vmem, ⟨15, _⟩ => ⟨S16x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== ReferenceIdeal.lean ====
abbrev S4096x256 : Shape := ⟨2, ![4096, 256]⟩
abbrev S17 : Shape := ⟨1, ![17]⟩
abbrev S256x256 : Shape := ⟨2, ![256, 256]⟩
abbrev S256 : Shape := ⟨1, ![256]⟩
abbrev S1x256 : Shape := ⟨2, ![1, 256]⟩
abbrev S_ : Shape := ⟨0, ![]⟩
abbrev S4096 : Shape := ⟨1, ![4096]⟩
abbrev S1x17 : Shape := ⟨2, ![1, 17]⟩
abbrev S4096x1 : Shape := ⟨2, ![4096, 1]⟩
abbrev S4096x17 : Shape := ⟨2, ![4096, 17]⟩
abbrev S16x512x256 : Shape := ⟨3, ![16, 512, 256]⟩
abbrev S4096x2 : Shape := ⟨2, ![4096, 2]⟩
abbrev S16x512 : Shape := ⟨2, ![16, 512]⟩
abbrev S16 : Shape := ⟨1, ![16]⟩
abbrev S16x1 : Shape := ⟨2, ![16, 1]⟩
abbrev S16x256 : Shape := ⟨2, ![16, 256]⟩
abbrev S16x512x1 : Shape := ⟨3, ![16, 512, 1]⟩

abbrev nBuf : Space → Nat
  | .hbm => 284
  | .vmem => 0
  | .smem => 0
  | _ => 0

abbrev hbmTy0_0 (i : Nat) : BufTy := match i % 128 with
  | 0 => ⟨S4096x256, .f32⟩
  | 1 => ⟨S17, .i32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256, .f32⟩
  | 9 => ⟨S256x256, .f32⟩
  | 10 => ⟨S256, .f32⟩
  | 11 => ⟨S256x256, .f32⟩
  | 12 => ⟨S4096x256, .f32⟩
  | 13 => ⟨S1x256, .f32⟩
  | 14 => ⟨S4096x256, .f32⟩
  | 15 => ⟨S4096x256, .f32⟩
  | 16 => ⟨S_, .f32⟩
  | 17 => ⟨S4096x256, .f32⟩
  | 18 => ⟨S4096x256, .f32⟩
  | 19 => ⟨S4096x256, .f32⟩
  | 20 => ⟨S1x256, .f32⟩
  | 21 => ⟨S4096x256, .f32⟩
  | 22 => ⟨S4096x256, .f32⟩
  | 23 => ⟨S_, .f32⟩
  | 24 => ⟨S4096x256, .f32⟩
  | 25 => ⟨S4096x256, .f32⟩
  | 26 => ⟨S4096, .i32⟩
  | 27 => ⟨S1x17, .i32⟩
  | 28 => ⟨S4096x1, .i32⟩
  | 29 => ⟨S4096x17, .i32⟩
  | 30 => ⟨S4096x17, .i32⟩
  | 31 => ⟨S4096x17, .i1⟩
  | 32 => ⟨S4096x17, .i32⟩
  | 33 => ⟨S_, .i32⟩
  | 34 => ⟨S4096, .i32⟩
  | 35 => ⟨S_, .i32⟩
  | 36 => ⟨S4096, .i32⟩
  | 37 => ⟨S4096, .i32⟩
  | 38 => ⟨S_, .i32⟩
  | 39 => ⟨S4096, .i32⟩
  | 40 => ⟨S4096, .i1⟩
  | 41 => ⟨S_, .i32⟩
  | 42 => ⟨S4096, .i32⟩
  | 43 => ⟨S4096, .i32⟩
  | 44 => ⟨S4096, .i32⟩
  | 45 => ⟨S4096x1, .i32⟩
  | 46 => ⟨S4096, .i32⟩
  | 47 => ⟨S4096, .i32⟩
  | 48 => ⟨S_, .f32⟩
  | 49 => ⟨S16x512x256, .f32⟩
  | 50 => ⟨S_, .i32⟩
  | 51 => ⟨S4096, .i32⟩
  | 52 => ⟨S4096, .i1⟩
  | 53 => ⟨S_, .i32⟩
  | 54 => ⟨S4096, .i32⟩
  | 55 => ⟨S4096, .i32⟩
  | 56 => ⟨S4096, .i32⟩
  | 57 => ⟨S_, .i32⟩
  | 58 => ⟨S4096, .i32⟩
  | 59 => ⟨S4096, .i1⟩
  | 60 => ⟨S_, .i32⟩
  | 61 => ⟨S4096, .i32⟩
  | 62 => ⟨S4096, .i32⟩
  | 63 => ⟨S4096, .i32⟩
  | 64 => ⟨S4096x1, .i32⟩
  | 65 => ⟨S4096x1, .i32⟩
  | 66 => ⟨S4096x2, .i32⟩
  | 67 => ⟨S16x512x256, .f32⟩
  | 68 => ⟨S_, .f32⟩
  | 69 => ⟨S16x512, .f32⟩
  | 70 => ⟨S_, .i32⟩
  | 71 => ⟨S4096, .i32⟩
  | 72 => ⟨S4096, .i1⟩
  | 73 => ⟨S_, .i32⟩
  | 74 => ⟨S4096, .i32⟩
  | 75 => ⟨S4096, .i32⟩
  | 76 => ⟨S4096, .i32⟩
  | 77 => ⟨S_, .i32⟩
  | 78 => ⟨S4096, .i32⟩
  | 79 => ⟨S4096, .i1⟩
  | 80 => ⟨S_, .i32⟩
  | 81 => ⟨S4096, .i32⟩
  | 82 => ⟨S4096, .i32⟩
  | 83 => ⟨S4096, .i32⟩
  | 84 => ⟨S4096x1, .i32⟩
  | 85 => ⟨S4096x1, .i32⟩
  | 86 => ⟨S4096x2, .i32⟩
  | 87 => ⟨S_, .f32⟩
  | 88 => ⟨S4096, .f32⟩
  | 89 => ⟨S16x512, .f32⟩
  | 90 => ⟨S16x512, .f32⟩
  | 91 => ⟨S_, .f32⟩
  | 92 => ⟨S16x512, .f32⟩
  | 93 => ⟨S16x512, .i1⟩
  | 94 => ⟨S_, .f32⟩
  | 95 => ⟨S16x512, .f32⟩
  | 96 => ⟨S16x512, .f32⟩
  | 97 => ⟨S_, .f32⟩
  | 98 => ⟨S16, .f32⟩
  | 99 => ⟨S_, .f32⟩
  | 100 => ⟨S16, .f32⟩
  | 101 => ⟨S16, .f32⟩
  | 102 => ⟨S16x1, .f32⟩
  | 103 => ⟨S16x512, .f32⟩
  | 104 => ⟨S16x512, .f32⟩
  | 105 => ⟨S16x512, .f32⟩
  | 106 => ⟨S_, .f32⟩
  | 107 => ⟨S16, .f32⟩
  | 108 => ⟨S16x1, .f32⟩
  | 109 => ⟨S16x512, .f32⟩
  | 110 => ⟨S16x512, .f32⟩
  | 111 => ⟨S16x256, .f32⟩
  | 112 => ⟨S16x256, .f32⟩
  | 113 => ⟨S4096x256, .f32⟩
  | 114 => ⟨S1x256, .f32⟩
  | 115 => ⟨S4096x256, .f32⟩
  | 116 => ⟨S4096x256, .f32⟩
  | 117 => ⟨S_, .f32⟩
  | 118 => ⟨S4096x256, .f32⟩
  | 119 => ⟨S4096x256, .f32⟩
  | 120 => ⟨S4096, .i32⟩
  | 121 => ⟨S1x17, .i32⟩
  | 122 => ⟨S4096x1, .i32⟩
  | 123 => ⟨S4096x17, .i32⟩
  | 124 => ⟨S4096x17, .i32⟩
  | 125 => ⟨S4096x17, .i1⟩
  | 126 => ⟨S4096x17, .i32⟩
  | 127 => ⟨S_, .i32⟩
  | _ => ⟨S4096x256, .f32⟩

abbrev hbmTy0_1 (i : Nat) : BufTy := match i % 128 with
  | 0 => ⟨S4096, .i32⟩
  | 1 => ⟨S_, .i32⟩
  | 2 => ⟨S4096, .i32⟩
  | 3 => ⟨S4096, .i32⟩
  | 4 => ⟨S_, .i32⟩
  | 5 => ⟨S4096, .i32⟩
  | 6 => ⟨S4096, .i1⟩
  | 7 => ⟨S_, .i32⟩
  | 8 => ⟨S4096, .i32⟩
  | 9 => ⟨S4096, .i32⟩
  | 10 => ⟨S4096, .i32⟩
  | 11 => ⟨S4096x1, .i32⟩
  | 12 => ⟨S4096, .i32⟩
  | 13 => ⟨S4096, .i32⟩
  | 14 => ⟨S_, .f32⟩
  | 15 => ⟨S16x512x256, .f32⟩
  | 16 => ⟨S_, .i32⟩
  | 17 => ⟨S4096, .i32⟩
  | 18 => ⟨S4096, .i1⟩
  | 19 => ⟨S_, .i32⟩
  | 20 => ⟨S4096, .i32⟩
  | 21 => ⟨S4096, .i32⟩
  | 22 => ⟨S4096, .i32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S4096x1, .i32⟩
  | 32 => ⟨S4096x2, .i32⟩
  | 33 => ⟨S16x512x256, .f32⟩
  | 34 => ⟨S_, .f32⟩
  | 35 => ⟨S16x512, .f32⟩
  | 36 => ⟨S_, .i32⟩
  | 37 => ⟨S4096, .i32⟩
  | 38 => ⟨S4096, .i1⟩
  | 39 => ⟨S_, .i32⟩
  | 40 => ⟨S4096, .i32⟩
  | 41 => ⟨S4096, .i32⟩
  | 42 => ⟨S4096, .i32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S4096x1, .i32⟩
  | 51 => ⟨S4096x1, .i32⟩
  | 52 => ⟨S4096x2, .i32⟩
  | 53 => ⟨S_, .f32⟩
  | 54 => ⟨S4096, .f32⟩
  | 55 => ⟨S16x512, .f32⟩
  | 56 => ⟨S16x512, .f32⟩
  | 57 => ⟨S_, .f32⟩
  | 58 => ⟨S16x512, .f32⟩
  | 59 => ⟨S16x512, .i1⟩
  | 60 => ⟨S_, .f32⟩
  | 61 => ⟨S16x512, .f32⟩
  | 62 => ⟨S16x512, .f32⟩
  | 63 => ⟨S_, .f32⟩
  | 64 => ⟨S16, .f32⟩
  | 65 => ⟨S_, .f32⟩
  | 66 => ⟨S16, .f32⟩
  | 67 => ⟨S16, .f32⟩
  | 68 => ⟨S16x1, .f32⟩
  | 69 => ⟨S16x512, .f32⟩
  | 70 => ⟨S16x512, .f32⟩
  | 71 => ⟨S16x512, .f32⟩
  | 72 => ⟨S_, .f32⟩
  | 73 => ⟨S16, .f32⟩
  | 74 => ⟨S16x1, .f32⟩
  | 75 => ⟨S16x512, .f32⟩
  | 76 => ⟨S16x512, .f32⟩
  | 77 => ⟨S16x256, .f32⟩
  | 78 => ⟨S16x256, .f32⟩
  | 79 => ⟨S4096, .i32⟩
  | 80 => ⟨S1x17, .i32⟩
  | 81 => ⟨S4096x1, .i32⟩
  | 82 => ⟨S4096x17, .i32⟩
  | 83 => ⟨S4096x17, .i32⟩
  | 84 => ⟨S4096x17, .i1⟩
  | 85 => ⟨S4096x17, .i32⟩
  | 86 => ⟨S_, .i32⟩
  | 87 => ⟨S4096, .i32⟩
  | 88 => ⟨S_, .i32⟩
  | 89 => ⟨S4096, .i32⟩
  | 90 => ⟨S4096, .i32⟩
  | 91 => ⟨S_, .i32⟩
  | 92 => ⟨S4096, .i32⟩
  | 93 => ⟨S4096, .i1⟩
  | 94 => ⟨S_, .i32⟩
  | 95 => ⟨S4096, .i32⟩
  | 96 => ⟨S4096, .i32⟩
  | 97 => ⟨S4096, .i32⟩
  | 98 => ⟨S4096x1, .i32⟩
  | 99 => ⟨S4096, .i32⟩
  | 100 => ⟨S4096, .i32⟩
  | 101 => ⟨S_, .f32⟩
  | 102 => ⟨S16x512x256, .f32⟩
  | 103 => ⟨S_, .i32⟩
  | 104 => ⟨S4096, .i32⟩
  | 105 => ⟨S4096, .i1⟩
  | 106 => ⟨S_, .i32⟩
  | 107 => ⟨S4096, .i32⟩
  | 108 => ⟨S4096, .i32⟩
  | 109 => ⟨S4096, .i32⟩
  | 110 => ⟨S_, .i32⟩
  | 111 => ⟨S4096, .i32⟩
  | 112 => ⟨S4096, .i1⟩
  | 113 => ⟨S_, .i32⟩
  | 114 => ⟨S4096, .i32⟩
  | 115 => ⟨S4096, .i32⟩
  | 116 => ⟨S4096, .i32⟩
  | 117 => ⟨S4096x1, .i32⟩
  | 118 => ⟨S4096x1, .i32⟩
  | 119 => ⟨S4096x2, .i32⟩
  | 120 => ⟨S16x512x256, .f32⟩
  | 121 => ⟨S_, .f32⟩
  | 122 => ⟨S16x512, .f32⟩
  | 123 => ⟨S_, .i32⟩
  | 124 => ⟨S4096, .i32⟩
  | 125 => ⟨S4096, .i1⟩
  | 126 => ⟨S_, .i32⟩
  | 127 => ⟨S4096, .i32⟩
  | _ => ⟨S4096x256, .f32⟩

abbrev hbmTy0_2 (i : Nat) : BufTy := match i % 128 with
  | 0 => ⟨S4096, .i32⟩
  | 1 => ⟨S4096, .i32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S4096x1, .i32⟩
  | 10 => ⟨S4096x1, .i32⟩
  | 11 => ⟨S4096x2, .i32⟩
  | 12 => ⟨S_, .f32⟩
  | 13 => ⟨S4096, .f32⟩
  | 14 => ⟨S16x512, .f32⟩
  | 15 => ⟨S_, .f32⟩
  | 16 => ⟨S16, .f32⟩
  | 17 => ⟨S16x1, .f32⟩
  | 18 => ⟨S_, .f32⟩
  | 19 => ⟨S16x1, .f32⟩
  | 20 => ⟨S16x1, .f32⟩
  | 21 => ⟨S16x512x1, .f32⟩
  | 22 => ⟨S16x512x256, .f32⟩
  | 23 => ⟨S16x512x256, .f32⟩
  | 24 => ⟨S_, .f32⟩
  | 25 => ⟨S16x256, .f32⟩
  | 26 => ⟨S16x256, .f32⟩
  | 27 => ⟨S16x256, .f32⟩
  | _ => ⟨S4096x256, .f32⟩

abbrev hbmTy (i : Nat) : BufTy := match i / 128 with
  | 0 => hbmTy0_0 i
  | 1 => hbmTy0_1 i
  | 2 => hbmTy0_2 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_c_0 : Ref sig .tc := ⟨.hbm, 35, rfl⟩
abbrev main_v18 : Ref sig .tc := ⟨.hbm, 36, rfl⟩
abbrev main_v19 : Ref sig .tc := ⟨.hbm, 37, rfl⟩
abbrev main_c_1 : Ref sig .tc := ⟨.hbm, 38, rfl⟩
abbrev main_v20 : Ref sig .tc := ⟨.hbm, 39, rfl⟩
abbrev main_v21 : Ref sig .tc := ⟨.hbm, 40, rfl⟩
abbrev main_c_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst : Ref sig .tc := ⟨.hbm, 48, rfl⟩
abbrev main_v28 : Ref sig .tc := ⟨.hbm, 49, rfl⟩
abbrev main_c_3 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_v35 : Ref sig .tc := ⟨.hbm, 59, rfl⟩
abbrev main_c_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_7 : Ref sig .tc := ⟨.hbm, 68, rfl⟩
abbrev main_v43 : Ref sig .tc := ⟨.hbm, 69, rfl⟩
abbrev main_c_8 : Ref sig .tc := ⟨.hbm, 70, rfl⟩
abbrev main_v44 : Ref sig .tc := ⟨.hbm, 71, rfl⟩
abbrev main_v45 : Ref sig .tc := ⟨.hbm, 72, rfl⟩
abbrev main_c_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_c_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_13 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_call2_v0 : Ref sig .tc := ⟨.hbm, 95, rfl⟩
abbrev main_v62 : Ref sig .tc := ⟨.hbm, 96, rfl⟩
abbrev main_cst_15 : Ref sig .tc := ⟨.hbm, 97, rfl⟩
abbrev main_v63 : Ref sig .tc := ⟨.hbm, 98, rfl⟩
abbrev main_cst_16 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_17 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_call3_cst : Ref sig .tc := ⟨.hbm, 117, rfl⟩
abbrev main_call3_v0 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_c_18 : Ref sig .tc := ⟨.hbm, 127, rfl⟩
abbrev main_v88 : Ref sig .tc := ⟨.hbm, 128, rfl⟩
abbrev main_c_19 : Ref sig .tc := ⟨.hbm, 129, rfl⟩
abbrev main_v89 : Ref sig .tc := ⟨.hbm, 130, rfl⟩
abbrev main_v90 : Ref sig .tc := ⟨.hbm, 131, rfl⟩
abbrev main_c_20 : Ref sig .tc := ⟨.hbm, 132, rfl⟩
abbrev main_v91 : Ref sig .tc := ⟨.hbm, 133, rfl⟩
abbrev main_v92 : Ref sig .tc := ⟨.hbm, 134, rfl⟩
abbrev main_c_21 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_22 : Ref sig .tc := ⟨.hbm, 142, rfl⟩
abbrev main_v99 : Ref sig .tc := ⟨.hbm, 143, rfl⟩
abbrev main_c_23 : Ref sig .tc := ⟨.hbm, 144, rfl⟩
abbrev main_v100 : Ref sig .tc := ⟨.hbm, 145, rfl⟩
abbrev main_v101 : Ref sig .tc := ⟨.hbm, 146, rfl⟩
abbrev main_c_24 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_c_25 : Ref sig .tc := ⟨.hbm, 151, rfl⟩
abbrev main_v105 : Ref sig .tc := ⟨.hbm, 152, rfl⟩
abbrev main_v106 : Ref sig .tc := ⟨.hbm, 153, rfl⟩
abbrev main_c_26 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_27 : Ref sig .tc := ⟨.hbm, 162, rfl⟩
abbrev main_v114 : Ref sig .tc := ⟨.hbm, 163, rfl⟩
abbrev main_c_28 : Ref sig .tc := ⟨.hbm, 164, rfl⟩
abbrev main_v115 : Ref sig .tc := ⟨.hbm, 165, rfl⟩
abbrev main_v116 : Ref sig .tc := ⟨.hbm, 166, rfl⟩
abbrev main_c_29 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_c_30 : Ref sig .tc := ⟨.hbm, 171, rfl⟩
abbrev main_v120 : Ref sig .tc := ⟨.hbm, 172, rfl⟩
abbrev main_v121 : Ref sig .tc := ⟨.hbm, 173, rfl⟩
abbrev main_c_31 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_cst_32 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_33 : Ref sig .tc := ⟨.hbm, 185, rfl⟩
abbrev main_v131 : Ref sig .tc := ⟨.hbm, 186, rfl⟩
abbrev main_v132 : Ref sig .tc := ⟨.hbm, 187, rfl⟩
abbrev main_cst_34 : Ref sig .tc := ⟨.hbm, 188, rfl⟩
abbrev main_call4_v0 : Ref sig .tc := ⟨.hbm, 189, rfl⟩
abbrev main_v133 : Ref sig .tc := ⟨.hbm, 190, rfl⟩
abbrev main_cst_35 : Ref sig .tc := ⟨.hbm, 191, rfl⟩
abbrev main_v134 : Ref sig .tc := ⟨.hbm, 192, rfl⟩
abbrev main_cst_36 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_cst_37 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_c_38 : Ref sig .tc := ⟨.hbm, 214, rfl⟩
abbrev main_v154 : Ref sig .tc := ⟨.hbm, 215, rfl⟩
abbrev main_c_39 : Ref sig .tc := ⟨.hbm, 216, rfl⟩
abbrev main_v155 : Ref sig .tc := ⟨.hbm, 217, rfl⟩
abbrev main_v156 : Ref sig .tc := ⟨.hbm, 218, rfl⟩
abbrev main_c_40 : Ref sig .tc := ⟨.hbm, 219, rfl⟩
abbrev main_v157 : Ref sig .tc := ⟨.hbm, 220, rfl⟩
abbrev main_v158 : Ref sig .tc := ⟨.hbm, 221, rfl⟩
abbrev main_c_41 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_cst_42 : Ref sig .tc := ⟨.hbm, 229, rfl⟩
abbrev main_v165 : Ref sig .tc := ⟨.hbm, 230, rfl⟩
abbrev main_c_43 : Ref sig .tc := ⟨.hbm, 231, rfl⟩
abbrev main_v166 : Ref sig .tc := ⟨.hbm, 232, rfl⟩
abbrev main_v167 : Ref sig .tc := ⟨.hbm, 233, rfl⟩
abbrev main_c_44 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_c_45 : Ref sig .tc := ⟨.hbm, 238, rfl⟩
abbrev main_v171 : Ref sig .tc := ⟨.hbm, 239, rfl⟩
abbrev main_v172 : Ref sig .tc := ⟨.hbm, 240, rfl⟩
abbrev main_c_46 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_cst_47 : Ref sig .tc := ⟨.hbm, 249, rfl⟩
abbrev main_v180 : Ref sig .tc := ⟨.hbm, 250, rfl⟩
abbrev main_c_48 : Ref sig .tc := ⟨.hbm, 251, rfl⟩
abbrev main_v181 : Ref sig .tc := ⟨.hbm, 252, rfl⟩
abbrev main_v182 : Ref sig .tc := ⟨.hbm, 253, rfl⟩
abbrev main_c_49 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_c_50 : Ref sig .tc := ⟨.hbm, 258, rfl⟩
abbrev main_v186 : Ref sig .tc := ⟨.hbm, 259, rfl⟩
abbrev main_v187 : Ref sig .tc := ⟨.hbm, 260, rfl⟩
abbrev main_c_51 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_cst_52 : Ref sig .tc := ⟨.hbm, 268, rfl⟩
abbrev main_v194 : Ref sig .tc := ⟨.hbm, 269, rfl⟩
abbrev main_v195 : Ref sig .tc := ⟨.hbm, 270, rfl⟩
abbrev main_cst_53 : Ref sig .tc := ⟨.hbm, 271, rfl⟩
abbrev main_v196 : Ref sig .tc := ⟨.hbm, 272, rfl⟩
abbrev main_v197 : Ref sig .tc := ⟨.hbm, 273, rfl⟩
abbrev main_cst_54 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_cst_55 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩

abbrev nD : Nat := 1
abbrev τ : Topo := Topo.v7x

variable {F : FTy → Type} [FloatOps F]
-- ==== Proof.Pooling.lean ====
/-
  Segment pooling in plain mathematics: dense layers, attention scores, and the two poolings the kernel stores, over
  extended reals. The nodes of a batch are numbered 0 to 4095; a table of 17 boundaries cuts them into 16 graphs.
-/
module

public import Idealize.ShloMosaic.Lib.Pointwise
public import Idealize.ShloMosaic.Lib.Claim

@[expose] public section

noncomputable section

open Idealize.ShloMosaic

namespace Cert.Pooling

/-- A dense layer with the rectifier: row `i`, column `j` of `max (X W + b) 0`. -/
def dense {n k d : ℕ} (X : Fin n → Fin k → EReal) (W : Fin k → Fin d → EReal) (b : Fin d → EReal) (i : Fin n) (j : Fin d) : EReal :=
  max (∑ x, X i x * W x j + b j) 0

theorem dense_nonneg {n k d : ℕ} (X : Fin n → Fin k → EReal) (W : Fin k → Fin d → EReal) (b : Fin d → EReal) (i : Fin n) (j : Fin d) :
    0 ≤ dense X W b i j := le_max_right _ _

/-- The attention score of node `i`: its feature row against the attention vector. -/
def score {n k : ℕ} (a : Fin k → EReal) (f : Fin n → Fin k → EReal) (i : Fin n) : EReal := ∑ x, a x * f i x

/-- The largest of finitely many scores (minus infinity when there are none). -/
def top {n : ℕ} (s : Fin n → EReal) : EReal := Finset.univ.sup s

/-- Node `i` belongs to graph `b`: it lies from the graph's first boundary up to, and not including, the next. -/
def InSeg (c : Fin 17 → ℕ) (b : Fin 16) (i : Fin 4096) : Prop := c b.castSucc ≤ i.val ∧ i.val < c b.succ

instance (c : Fin 17 → ℕ) (b : Fin 16) (i : Fin 4096) : Decidable (InSeg c b i) := inferInstanceAs (Decidable (_ ∧ _))

/-- The kernel's floor under a softmax denominator, the binary32 number nearest 1e-30. -/
def denFloor : EReal := Ideal.ofBits .f32 0x0DA24260#32

/-- The unnormalised weight of node `i` in graph `b`, taken against the largest score of the whole batch. -/
def weight (c : Fin 17 → ℕ) (s : Fin 4096 → EReal) (b : Fin 16) (i : Fin 4096) : EReal :=
  if InSeg c b i then Ideal.exp (s i - top s) else 0

/-- The attention pooling of graph `b` at feature `k`, as the kernel computes it. -/
def pooled (c : Fin 17 → ℕ) (s : Fin 4096 → EReal) (f : Fin 4096 → Fin 256 → EReal) (b : Fin 16) (k : Fin 256) : EReal :=
  (∑ i, weight c s b i * f i k) * Ideal.div 1 (max (∑ i, weight c s b i) denFloor)

/-- A pooled row times the query matrix. -/
def query (p : Fin 16 → Fin 256 → EReal) (Wq : Fin 256 → Fin 256 → EReal) (b : Fin 16) (d : Fin 256) : EReal :=
  ∑ k, p b k * Wq k d

/-- The mean of the features of graph `b`, as the kernel computes it: a graph without nodes divides by one. -/
def mean (c : Fin 17 → ℕ) (f : Fin 4096 → Fin 256 → EReal) (b : Fin 16) (d : Fin 256) : EReal :=
  (∑ i, (if InSeg c b i then 1 else 0) * f i d) * Ideal.div 1 (max (((c b.succ - c b.castSucc : ℕ) : ℝ) : EReal) 1)

/-- What the boundaries must be: they start at 0, never decrease, end within the nodes, and no graph is longer than
the padded rows. -/
structure Good (c : Fin 17 → ℕ) : Prop where
  zero : c 0 = 0
  last : c 16 ≤ 4096
  mono : ∀ b : Fin 16, c b.castSucc ≤ c b.succ
  short : ∀ b : Fin 16, c b.succ ≤ c b.castSucc + 512

theorem Good.monotone {c : Fin 17 → ℕ} (h : Good c) : Monotone c := Fin.monotone_iff_le_succ.2 h.mono

theorem Good.le {c : Fin 17 → ℕ} (h : Good c) (j : Fin 17) : c j ≤ 4096 :=
  (h.monotone (Fin.le_last j)).trans h.last

/-- The kernel's maximum over the scores laid out as one row is the largest score. -/
theorem fold_row_eq_top {n : ℕ} (s : Fin n → EReal) :
    Finset.fold max (⊥ : EReal) (fun x : Fin 1 × Fin n => s x.2) Finset.univ = top s := by
  change Finset.univ.sup (fun x : Fin 1 × Fin n => s x.2) = Finset.univ.sup s
  refine le_antisymm (Finset.sup_le fun x _ => Finset.le_sup (f := s) (Finset.mem_univ x.2)) (Finset.sup_le fun i _ => ?_)
  exact Finset.le_sup (f := fun x : Fin 1 × Fin n => s x.2) (Finset.mem_univ (0, i))

/-- The pattern of minus infinity. -/
theorem ofBits_neg_inf : Ideal.ofBits .f32 0xFF800000#32 = ⊥ := by
  simp [Ideal.ofBits, Ideal.ieee]

theorem ofBits_pos_inf : Ideal.ofBits .f32 0x7F800000#32 = ⊤ := by
  simp [Ideal.ofBits, Ideal.ieee]

theorem ofBits_69 : Ideal.ofBits .f32 0x428A0000#32 = ((69 : ℝ) : EReal) := by
  simp [Ideal.ofBits, Ideal.ieee]
  exact_mod_cast (by norm_num : (9043968 : ℝ) * (2 ^ 17)⁻¹ = 69)

theorem denFloor_eq : denFloor = ((10633824 * (2 : ℝ) ^ (-123 : ℤ) : ℝ) : EReal) := by
  simp [denFloor, Ideal.ofBits, Ideal.ieee]

theorem select_ite {p : Prop} [Decidable p] (x y : EReal) :
    Scalar.select (if p then 1#1 else 0#1) x y = if p then x else y := by
  by_cases h : p <;> simp [h, Scalar.select]

theorem sitofp_ite {p : Prop} [Decidable p] :
    (FloatOps.sitofp FTy.f32 (BitVec.setWidth 32 (if p then 1#1 else 0#1)) : Ideal .f32) = if p then (1 : EReal) else 0 := by
  by_cases h : p <;> simp [h, FloatOps.sitofp]

end Cert.Pooling

end
-- ==== Proof.KernelBlock.lean ====
/-
  What the kernel's body computes, entry by entry: each stored value and each intermediate value of the body is one of
  the plain functions of `Pooling.lean`.
-/
module

public import proofs.«01_k».proof.Proof.Gen.KernelIdeal.Skeleton
public import proofs.«01_k».proof.Proof.Pooling
public import Idealize.ShloMosaic.Lib.Pipeline.ValueKit

@[expose] public section

set_option maxRecDepth 16384

noncomputable section

open Idealize.ShloMosaic Idealize.ShloMosaic.TcCoe Idealize.SL.Sem
open Cert.Pooling

namespace Cert.KernelIdeal.Block

open Cert.KernelIdeal Cert.KernelIdeal.Gen

/-- A matrix as a function of its row and column. -/
abbrev mat {n k : ℕ} (v : Shape.Idx ⟨2, ![n, k]⟩ → EReal) : Fin n → Fin k → EReal := fun i j => v (ix2 i j)

/-- A one-row matrix as a function of its column. -/
abbrev row {k : ℕ} (v : Shape.Idx ⟨2, ![1, k]⟩ → EReal) : Fin k → EReal := fun j => v (ix2 0 j)

/-- The base encoder's rectified features. -/
theorem base_read (v0 : Vec Ideal S4096x256 .f32) (v2 : Vec Ideal S256x256 .f32) (v5 : Vec Ideal S1x256 .f32) (i : Fin 4096) (d : Fin 256) :
    k0_pay4 v0 v2 v5 (ix2 i d) = dense (mat v0) (mat v2) (row v5) i d := by
  pointwise [k0_pay4]
  rfl

/-- The left half of the two encoders computed at once: the first encoder's features. -/
theorem left_read (v0 : Vec Ideal S4096x256 .f32) (v2 : Vec Ideal S256x256 .f32) (v5 : Vec Ideal S1x256 .f32)
    (v22 v23 : Vec Ideal S256x256 .f32) (v26 v28 : Vec Ideal S1x256 .f32) (i : Fin 4096) (d : Fin 256) :
    k0_pay8 v0 v2 v5 v22 v23 v26 v28 (ix2 i ⟨d.val, by omega⟩)
      = dense (dense (mat v0) (mat v2) (row v5)) (mat v22) (row v26) i d := by
  pointwise [k0_pay8]
  simp only [base_read]
  rfl

/-- The right half: the second encoder's features. -/
theorem right_read (v0 : Vec Ideal S4096x256 .f32) (v2 : Vec Ideal S256x256 .f32) (v5 : Vec Ideal S1x256 .f32)
    (v22 v23 : Vec Ideal S256x256 .f32) (v26 v28 : Vec Ideal S1x256 .f32) (i : Fin 4096) (d : Fin 256) :
    k0_pay8 v0 v2 v5 v22 v23 v26 v28 (ix2 i ⟨256 + d.val, by omega⟩)
      = dense (dense (mat v0) (mat v2) (row v5)) (mat v23) (row v28) i d := by
  pointwise [k0_pay8]
  simp only [base_read]
  rfl

variable {c : Fin 17 → ℕ} {g : IVec S16x4096 1} (hg : ∀ b i, g (ix2 b i) = if InSeg c b i then 1#1 else 0#1)
include hg

/-- The first pooling's unnormalised weights. -/
theorem weight_left (v36 : FVec Ideal S4096x512 .bf16) (a : Vec Ideal S1x256 .f32) (f : Fin 4096 → Fin 256 → EReal)
    (hf : ∀ (i : Fin 4096) (d : Fin 256), v36 (ix2 i ⟨d.val, by omega⟩) = f i d) (b : Fin 16) (i : Fin 4096) :
    k0_pay9 g v36 a (ix2 b i) = weight c (score (row a) f) b i := by
  pointwise [k0_pay9]
  simp only [hf, hg, select_ite, ofBits_neg_inf]
  rw [fold_row_eq_top (fun i => ∑ x, a (ix2 0 x) * f i x)]
  rfl

/-- The second pooling's unnormalised weights. -/
theorem weight_right (v36 : FVec Ideal S4096x512 .bf16) (a : Vec Ideal S1x256 .f32) (f : Fin 4096 → Fin 256 → EReal)
    (hf : ∀ (i : Fin 4096) (d : Fin 256), v36 (ix2 i ⟨256 + d.val, by omega⟩) = f i d) (b : Fin 16) (i : Fin 4096) :
    k0_pay12 g v36 a (ix2 b i) = weight c (score (row a) f) b i := by
  pointwise [k0_pay12]
  simp only [hf, hg, select_ite, ofBits_neg_inf]
  rw [fold_row_eq_top (fun i => ∑ x, a (ix2 0 x) * f i x)]
  rfl

/-- The first pooling's stored value. -/
theorem query_left (v36 : FVec Ideal S4096x512 .bf16) (a : Vec Ideal S1x256 .f32) (f : Fin 4096 → Fin 256 → EReal)
    (hf : ∀ (i : Fin 4096) (d : Fin 256), v36 (ix2 i ⟨d.val, by omega⟩) = f i d) (wq : Vec Ideal S256x256 .f32) (b : Fin 16) (d : Fin 256) :
    k0_pay2 v36 (k0_pay10 g v36 a) (k0_pay11 g v36 a) wq (ix2 b d)
      = query (pooled c (score (row a) f) f) (mat wq) b d := by
  have h10 : ∀ i, k0_pay10 g v36 a (ix2 b i) = weight c (score (row a) f) b i := fun i => by
    pointwise [k0_pay10]
    exact weight_left hg v36 a f hf b i
  have h11 : k0_pay11 g v36 a (ix2 b 0) = Ideal.div 1 (max (∑ i, weight c (score (row a) f) b i) denFloor) := by
    pointwise [k0_pay11]
    simp only [weight_left hg v36 a f hf]
    rfl
  pointwise [k0_pay2]
  simp only [h10, h11, hf]
  rfl

/-- The second pooling's stored value. -/
theorem query_right (v36 : FVec Ideal S4096x512 .bf16) (a : Vec Ideal S1x256 .f32) (f : Fin 4096 → Fin 256 → EReal)
    (hf : ∀ (i : Fin 4096) (d : Fin 256), v36 (ix2 i ⟨256 + d.val, by omega⟩) = f i d) (wq : Vec Ideal S256x256 .f32) (b : Fin 16) (d : Fin 256) :
    k0_pay3 v36 (k0_pay13 g v36 a) (k0_pay14 g v36 a) k0_pay15 wq (ix2 b d)
      = query (pooled c (score (row a) f) f) (mat wq) b d := by
  have h13 : ∀ i, k0_pay13 g v36 a (ix2 b i) = weight c (score (row a) f) b i := fun i => by
    pointwise [k0_pay13]
    exact weight_right hg v36 a f hf b i
  have h14 : k0_pay14 g v36 a (ix2 b 0) = max (∑ i, weight c (score (row a) f) b i) denFloor := by
    pointwise [k0_pay14]
    simp only [weight_right hg v36 a f hf]
    rfl
  have h15 : k0_pay15 (F := Ideal) (ix2 b 0) = (1 : EReal) := by
    pointwise [k0_pay15]
  pointwise [k0_pay3]
  simp only [h13, h14, h15, hf]
  rfl

/-- The stored mean of the base features. -/
theorem mean_read (v11 : FVec Ideal S4096x256 .bf16) (s e : IVec S16x1 32) (f : Fin 4096 → Fin 256 → EReal)
    (hf : ∀ i d, v11 (ix2 i d) = f i d)
    (hlen : ∀ b, (IntOp.subi (e (ix2 b 0)) (s (ix2 b 0))).toInt = ((c b.succ - c b.castSucc : ℕ) : ℤ)) (b : Fin 16) (d : Fin 256) :
    k0_pay1 v11 s e g (ix2 b d) = mean c f b d := by
  pointwise [k0_pay1]
  simp only [hf, hg, sitofp_ite]
  simp only [FloatOps.sitofp, hlen]
  simp [mean]

end Cert.KernelIdeal.Block

end
-- ==== Proof.KernelArrays.lean ====
/-
  What the kernel's three result arrays hold after its run, over its argument arrays. The kernel has one block per
  array, so each result array is what the body stores in the staging buffer, and each input block is the whole of its
  argument; the boundaries arrive as two columns, the starts and the ends, of the one table.
-/
module

public import proofs.«01_k».proof.Proof.Gen.KernelIdeal.Value
public import proofs.«01_k».proof.Proof.KernelBlock
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Pooling

namespace Cert.KernelIdeal.Arrays

open Cert.KernelIdeal Cert.KernelIdeal.Gen Cert.KernelIdeal.Block

variable (m : (ℓ : Loc nD τ sig) → Buf (Elt Ideal) ℓ) (c : Dev nD)

/-- Every window's one block is the block at the origin. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] :=
  (by decide +kernel : ∀ t : Fin grid0.N, _)

/-! ## The input blocks -/

theorem block0 : iblk m c 0 t0_0 = m ((c.tc : Thread nD τ).loc main_arg0) := by
  funext b
  blk_ext [iblk, V, idx t0_0]

theorem block3 : iblk m c 3 t0_0 = m ((c.tc : Thread nD τ).loc main_arg2) := by
  funext b
  blk_ext [iblk, V, idx t0_0]

theorem block5 : iblk m c 5 t0_0 = m ((c.tc : Thread nD τ).loc main_arg4) := by
  funext b
  blk_ext [iblk, V, idx t0_0]

theorem block7 : iblk m c 7 t0_0 = m ((c.tc : Thread nD τ).loc main_arg6) := by
  funext b
  blk_ext [iblk, V, idx t0_0]

theorem block10 : iblk m c 10 t0_0 = m ((c.tc : Thread nD τ).loc main_arg9) := by
  funext b
  blk_ext [iblk, V, idx t0_0]

theorem block12 : iblk m c 12 t0_0 = m ((c.tc : Thread nD τ).loc main_arg11) := by
  funext b
  blk_ext [iblk, V, idx t0_0]

theorem block4 (d : Fin 256) : iblk m c 4 t0_0 (ix2 0 d) = m ((c.tc : Thread nD τ).loc main_arg3) (ix1 d) := by
  unfold iblk
  blk_simp
  entry_read
  pointwise
  blk_ext [idx t0_0]

theorem block6 (d : Fin 256) : iblk m c 6 t0_0 (ix2 0 d) = m ((c.tc : Thread nD τ).loc main_arg5) (ix1 d) := by
  unfold iblk
  blk_simp
  entry_read
  pointwise
  blk_ext [idx t0_0]

theorem block8 (d : Fin 256) : iblk m c 8 t0_0 (ix2 0 d) = m ((c.tc : Thread nD τ).loc main_arg7) (ix1 d) := by
  unfold iblk
  blk_simp
  entry_read
  pointwise
  blk_ext [idx t0_0]

theorem block9 (d : Fin 256) : iblk m c 9 t0_0 (ix2 0 d) = m ((c.tc : Thread nD τ).loc main_arg8) (ix1 d) := by
  unfold iblk
  blk_simp
  entry_read
  pointwise
  blk_ext [idx t0_0]

theorem block11 (d : Fin 256) : iblk m c 11 t0_0 (ix2 0 d) = m ((c.tc : Thread nD τ).loc main_arg10) (ix1 d) := by
  unfold iblk
  blk_simp
  entry_read
  pointwise
  blk_ext [idx t0_0]

/-- The starts: the boundaries without the last. -/
theorem block1 (b : Fin 16) : iblk m c 1 t0_0 (ix2 b 0) = m ((c.tc : Thread nD τ).loc main_arg1) (ix1 b.castSucc) := by
  unfold iblk
  blk_simp
  entry_read
  have h : ((View.whole main_v1).slice (win0_1.rect t0_0)).emb (ix2 b 0) = ix2 b 0 := by
    blk_ext [idx t0_0]
  rw [h]
  change shapeCast S16x1 (extractStridedSlice S16 ![0] (m ((c.tc : Thread nD τ).loc main_arg1)) slices_S17_S16_0)
      shapeCasts_S16_S16x1 (ix2 b 0) = _
  pointwise
  rfl

/-- The ends: the boundaries without the first. -/
theorem block2 (b : Fin 16) : iblk m c 2 t0_0 (ix2 b 0) = m ((c.tc : Thread nD τ).loc main_arg1) (ix1 b.succ) := by
  have h : (ix1 b.succ : Shape.Idx S17) = ix1 ⟨1 + b.val, by omega⟩ := by
    congr 1
    exact Fin.ext (Nat.add_comm _ _)
  rw [h]
  unfold iblk
  blk_simp
  entry_read
  pointwise
  blk_ext [idx t0_0]

/-! ## The arguments as plain functions -/

/-- The boundaries as natural numbers. -/
def cuts (j : Fin 17) : ℕ := (m ((c.tc : Thread nD τ).loc main_arg1) (ix1 j) : BitVec 32).toNat

/-- The base features of the run's arguments. -/
def feats : Fin 4096 → Fin 256 → EReal :=
  dense (mat (m ((c.tc : Thread nD τ).loc main_arg0))) (mat (m ((c.tc : Thread nD τ).loc main_arg2)))
    (fun d => m ((c.tc : Thread nD τ).loc main_arg3) (ix1 d))

/-- The first encoder's features. -/
def featsP : Fin 4096 → Fin 256 → EReal :=
  dense (feats m c) (mat (m ((c.tc : Thread nD τ).loc main_arg4))) (fun d => m ((c.tc : Thread nD τ).loc main_arg5) (ix1 d))

/-- The second encoder's features. -/
def featsR : Fin 4096 → Fin 256 → EReal :=
  dense (feats m c) (mat (m ((c.tc : Thread nD τ).loc main_arg6))) (fun d => m ((c.tc : Thread nD τ).loc main_arg7) (ix1 d))

/-- The first encoder's scores. -/
def scoresP : Fin 4096 → EReal := score (fun d => m ((c.tc : Thread nD τ).loc main_arg8) (ix1 d)) (featsP m c)

/-- The second encoder's scores. -/
def scoresR : Fin 4096 → EReal := score (fun d => m ((c.tc : Thread nD τ).loc main_arg10) (ix1 d)) (featsR m c)

/-! ## The masks -/

variable {m c}

theorem small (h : Good (cuts m c)) (j : Fin 17) :
    (m ((c.tc : Thread nD τ).loc main_arg1) (ix1 j) : BitVec 32).toInt = (cuts m c j : ℤ) :=
  WordCmp.toInt_eq_toNat_of_lt_half (lt_of_le_of_lt (h.le j) (by norm_num))

/-- The body's mask marks exactly the nodes of each graph. -/
theorem mask_read (h : Good (cuts m c)) (b : Fin 16) (i : Fin 4096) :
    k0_pay7 (F := Ideal) (iblk m c 1 t0_0) (iblk m c 2 t0_0) (ix2 b i) = if InSeg (cuts m c) b i then 1#1 else 0#1 := by
  pointwise [k0_pay7, k0_pay5, k0_pay6]
  rw [block1, block2, WordCmp.cmpi_sge_eq, WordCmp.cmpi_slt_eq, small h, small h,
    WordCmp.toInt_ofNat_of_lt (by have := i.isLt; norm_num; omega), WordCmp.andi_ofBool]
  by_cases hi : InSeg (cuts m c) b i
  · rw [if_pos hi]
    obtain ⟨h1, h2⟩ := hi
    simp [h1, h2]
  · rw [if_neg hi]
    unfold InSeg at hi
    by_cases h1 : cuts m c b.castSucc ≤ i.val
    · have h2 : ¬ i.val < cuts m c b.succ := fun h2 => hi ⟨h1, h2⟩
      simp [h1, h2]
    · simp [h1]

/-- The difference of a graph's two boundaries is its length. -/
theorem length_read (h : Good (cuts m c)) (b : Fin 16) :
    (IntOp.subi (k0_pay6 (F := Ideal) (iblk m c 2 t0_0) (ix2 b 0)) (k0_pay5 (F := Ideal) (iblk m c 1 t0_0) (ix2 b 0))).toInt
      = ((cuts m c b.succ - cuts m c b.castSucc : ℕ) : ℤ) := by
  have e5 : k0_pay5 (F := Ideal) (iblk m c 1 t0_0) (ix2 b 0) = m ((c.tc : Thread nD τ).loc main_arg1) (ix1 b.castSucc) := by
    pointwise [k0_pay5]
    exact block1 m c b
  have e6 : k0_pay6 (F := Ideal) (iblk m c 2 t0_0) (ix2 b 0) = m ((c.tc : Thread nD τ).loc main_arg1) (ix1 b.succ) := by
    pointwise [k0_pay6]
    exact block2 m c b
  rw [e5, e6]
  have hm := h.mono b
  have h1 := small h b.castSucc
  have h2 := small h b.succ
  have hle := h.le b.succ
  change (_ - _ : BitVec 32).toInt = _
  rw [BitVec.toInt_sub, h1, h2, Int.bmod_eq_of_le (by omega) (by omega)]
  omega

/-! ## The result arrays -/

theorem left_feats (i : Fin 4096) (d : Fin 256) :
    k0_pay8 (F := Ideal) (iblk m c 0 t0_0) (iblk m c 3 t0_0) (iblk m c 4 t0_0) (iblk m c 5 t0_0) (iblk m c 7 t0_0) (iblk m c 6 t0_0)
      (iblk m c 8 t0_0) (ix2 i ⟨d.val, by omega⟩) = featsP m c i d := by
  rw [left_read, block0, block3, block5, show row (iblk m c 4 t0_0) = _ from funext (block4 m c),
    show row (iblk m c 6 t0_0) = _ from funext (block6 m c)]
  rfl

theorem right_feats (i : Fin 4096) (d : Fin 256) :
    k0_pay8 (F := Ideal) (iblk m c 0 t0_0) (iblk m c 3 t0_0) (iblk m c 4 t0_0) (iblk m c 5 t0_0) (iblk m c 7 t0_0) (iblk m c 6 t0_0)
      (iblk m c 8 t0_0) (ix2 i ⟨256 + d.val, by omega⟩) = featsR m c i d := by
  rw [right_read, block0, block3, block7, show row (iblk m c 4 t0_0) = _ from funext (block4 m c),
    show row (iblk m c 8 t0_0) = _ from funext (block8 m c)]
  rfl

/-- The first result: the mean of the base features of each graph. -/
theorem final_keys (h : Good (cuts m c)) :
    (dats m 0 c).arrAt 13 (cfgs 0).N = fun j => mean (cuts m c) (feats m c) (j 0) (j 1) := by
  refine (dats m 0 c).arrAt_eq_of_after_last 13 t0_0 (by decide +kernel) _ fun j => ?_
  blk_simp
  rw [after0_13]
  unfold_out out0_13
  frame_out
  obtain ⟨b, d, rfl⟩ : ∃ (b : Fin 16) (d : Fin 256), j = ix2 b d := ⟨j 0, j 1, by blk_ext⟩
  refine (mean_read (mask_read h) _ _ _ (feats m c) (fun i d => ?_) (length_read h) b d).trans rfl
  rw [base_read, block0, block3, show row (iblk m c 4 t0_0) = _ from funext (block4 m c)]
  rfl

/-- The second result: the first attention pooling times its query matrix. -/
theorem final_p (h : Good (cuts m c)) :
    (dats m 0 c).arrAt 14 (cfgs 0).N = fun j => query (pooled (cuts m c) (scoresP m c) (featsP m c))
      (mat (m ((c.tc : Thread nD τ).loc main_arg9))) (j 0) (j 1) := by
  refine (dats m 0 c).arrAt_eq_of_after_last 14 t0_0 (by decide +kernel) _ fun j => ?_
  blk_simp
  rw [after0_14]
  unfold_out out0_14
  frame_out
  obtain ⟨b, d, rfl⟩ : ∃ (b : Fin 16) (d : Fin 256), j = ix2 b d := ⟨j 0, j 1, by blk_ext⟩
  refine (query_left (mask_read h) _ _ (featsP m c) left_feats _ b d).trans ?_
  rw [show row (iblk m c 9 t0_0) = _ from funext (block9 m c), block10]
  rfl

/-- The third result: the second attention pooling times its query matrix. -/
theorem final_r (h : Good (cuts m c)) :
    (dats m 0 c).arrAt 15 (cfgs 0).N = fun j => query (pooled (cuts m c) (scoresR m c) (featsR m c))
      (mat (m ((c.tc : Thread nD τ).loc main_arg11))) (j 0) (j 1) := by
  refine (dats m 0 c).arrAt_eq_of_after_last 15 t0_0 (by decide +kernel) _ fun j => ?_
  blk_simp
  rw [after0_15]
  unfold_out out0_15
  frame_out
  obtain ⟨b, d, rfl⟩ : ∃ (b : Fin 16) (d : Fin 256), j = ix2 b d := ⟨j 0, j 1, by blk_ext⟩
  refine (query_right (mask_read h) _ _ (featsR m c) right_feats _ b d).trans ?_
  rw [show row (iblk m c 11 t0_0) = _ from funext (block11 m c), block12]
  rfl

end Cert.KernelIdeal.Arrays

end
-- ==== Proof.Softmax.lean ====
/-
  Two ways to take a softmax-weighted sum over a finite set agree: weights taken against the largest score of a larger
  set and normalised after the sum, with a floor under the denominator; and weights taken against the set's own largest
  score and normalised one by one.
-/
module

public import proofs.«01_k».proof.Proof.Pooling
public import Mathlib.Analysis.Complex.Exponential

@[expose] public section

noncomputable section

open Idealize.ShloMosaic

namespace Cert.Pooling

variable {ι : Type*}

/-- The floor is no larger than `exp (-69)`. -/
theorem denFloor_le : denFloor ≤ ((Real.exp (-69) : ℝ) : EReal) := by
  rw [denFloor_eq, EReal.coe_le_coe_iff, Real.exp_neg]
  have h0 : Real.exp 1 ≤ (2.719 : ℝ) := by
    refine (Real.exp_bound' zero_le_one le_rfl (n := 7) (by norm_num)).trans ?_
    norm_num [Finset.sum_range_succ, Nat.factorial]
  have h1 : Real.exp 69 ≤ (2.719 : ℝ) ^ 69 := by
    have : Real.exp 69 = Real.exp 1 ^ 69 := by rw [← Real.exp_nat_mul]; norm_num
    rw [this]
    exact pow_le_pow_left₀ (Real.exp_pos 1).le h0 69
  have h2 : ((2.719 : ℝ) ^ 69)⁻¹ ≤ (Real.exp 69)⁻¹ := inv_anti₀ (Real.exp_pos 69) h1
  refine le_trans ?_ h2
  norm_num

/-- A real factor comes out of a sum of extended reals that are not negative. -/
theorem sum_mul_coe (S : Finset ι) (x : ι → EReal) (hx : ∀ i, 0 ≤ x i) (t : ℝ) :
    (∑ i ∈ S, x i) * (t : EReal) = ∑ i ∈ S, x i * (t : EReal) := by
  classical
  induction S using Finset.induction_on with
  | empty => simp
  | insert a S ha ih =>
    rw [Finset.sum_insert ha, Finset.sum_insert ha, EReal.right_distrib_of_nonneg (hx a) (Finset.sum_nonneg fun i _ => hx i), ih]

/-- The sum of reals read as extended reals. -/
theorem coe_sum (S : Finset ι) (r : ι → ℝ) : ∑ i ∈ S, (r i : EReal) = ((∑ i ∈ S, r i : ℝ) : EReal) := by
  classical
  induction S using Finset.induction_on with
  | empty => simp
  | insert a S ha ih => rw [Finset.sum_insert ha, Finset.sum_insert ha, ih, EReal.coe_add]

/-- The exponential of a score that is at most a real number, taken against a real number, as a real number. -/
def wt (x : EReal) (T : ℝ) : ℝ := if x = ⊥ then 0 else Real.exp (x.toReal - T)

theorem wt_nonneg (x : EReal) (T : ℝ) : 0 ≤ wt x T := by
  unfold wt
  split
  · exact le_rfl
  · exact (Real.exp_pos _).le

theorem exp_sub_eq_wt {x : EReal} (hx : x ≠ ⊤) (T : ℝ) : Ideal.exp (x - (T : EReal)) = (wt x T : EReal) := by
  induction x with
  | bot => simp [wt]
  | top => exact absurd rfl hx
  | coe r =>
    rw [← EReal.coe_sub, Ideal.exp_coe]
    simp [wt]

/-- Changing the number the scores are taken against scales every weight by one factor. -/
theorem wt_shift (x : EReal) (T m : ℝ) : wt x m = wt x T * Real.exp (T - m) := by
  unfold wt
  split
  · simp
  · rw [← Real.exp_add]
    congr 1
    ring

/-- Over a set whose largest score is a real `m`, within 69 of a real bound `T` on its scores: the two softmax-weighted
sums agree. -/
theorem softmax_sum (S : Finset ι) (s f : ι → EReal) (hf : ∀ i, 0 ≤ f i) (T m : ℝ)
    (hm : S.sup s = (m : EReal)) (hT : ∀ i ∈ S, s i ≤ (T : EReal)) (h69 : T - 69 ≤ m) :
    (∑ i ∈ S, Ideal.exp (s i - (T : EReal)) * f i) * Ideal.div 1 (max (∑ i ∈ S, Ideal.exp (s i - (T : EReal))) denFloor)
      = ∑ i ∈ S, Ideal.div (Ideal.exp (s i - (m : EReal))) (∑ j ∈ S, Ideal.exp (s j - (m : EReal))) * f i := by
  have htop : ∀ i ∈ S, s i ≠ ⊤ := fun i hi h => by
    have := hT i hi
    rw [h] at this
    exact absurd this (by simp)
  have eT : ∀ i ∈ S, Ideal.exp (s i - (T : EReal)) = (wt (s i) T : EReal) := fun i hi => exp_sub_eq_wt (htop i hi) T
  have em : ∀ i ∈ S, Ideal.exp (s i - (m : EReal)) = (wt (s i) m : EReal) := fun i hi => exp_sub_eq_wt (htop i hi) m
  have hne : S.Nonempty := by
    rcases S.eq_empty_or_nonempty with h | h
    · rw [h] at hm
      simp at hm
    · exact h
  obtain ⟨a, ha, hsa⟩ := Finset.exists_mem_eq_sup S hne s
  have hsum : Real.exp (-69) ≤ ∑ i ∈ S, wt (s i) T := by
    have h1 : wt (s a) T ≤ ∑ i ∈ S, wt (s i) T := Finset.single_le_sum (fun i _ => wt_nonneg (s i) T) ha
    refine le_trans ?_ h1
    rw [← hsa, hm]
    simp only [wt, EReal.coe_ne_bot, if_false, EReal.toReal_coe]
    exact Real.exp_le_exp.2 (by linarith)
  have hpos : 0 < ∑ i ∈ S, wt (s i) T := lt_of_lt_of_le (Real.exp_pos _) hsum
  have hK : 0 < Real.exp (T - m) := Real.exp_pos _
  have hsm : ∑ i ∈ S, wt (s i) m = (∑ i ∈ S, wt (s i) T) * Real.exp (T - m) := by
    rw [Finset.sum_mul]
    exact Finset.sum_congr rfl fun i _ => wt_shift _ _ _
  rw [Finset.sum_congr rfl eT, Finset.sum_congr rfl em, coe_sum, coe_sum,
    max_eq_left (denFloor_le.trans (EReal.coe_le_coe_iff.2 hsum)), Ideal.div_coe hpos.ne', one_mul,
    Finset.sum_congr rfl (fun i hi => by rw [eT i hi]), sum_mul_coe]
  · refine Finset.sum_congr rfl fun i hi => ?_
    rw [em i hi, Ideal.div_coe (by rw [hsm]; positivity), ← EReal.coe_mul, mul_right_comm, ← EReal.coe_mul, hsm, wt_shift _ T m]
    congr 2
    field_simp
  · intro i
    exact mul_nonneg (EReal.coe_nonneg.2 (wt_nonneg _ _)) (hf i)

end Cert.Pooling

end
-- ==== Proof.Padded.lean ====
/-
  The padded form of the problem: every graph's nodes copied to a row of 512 cells, the softmax and the means taken
  along the row. Sums along a row are sums over the graph's nodes, so both padded poolings are the kernel's.
-/
module

public import proofs.«01_k».proof.Proof.Softmax

@[expose] public section

noncomputable section

open Idealize.ShloMosaic

namespace Cert.Pooling

/-- The nodes of graph `b`. -/
def segment (c : Fin 17 → ℕ) (b : Fin 16) : Finset (Fin 4096) := Finset.univ.filter (InSeg c b)

theorem mem_segment {c : Fin 17 → ℕ} {b : Fin 16} {i : Fin 4096} : i ∈ segment c b ↔ InSeg c b i := by
  simp [segment]

/-- Cell `l` of the padded row of graph `b`: the value of the graph's `l`-th node, or the filling past its end. -/
def padded {α : Type*} (c : Fin 17 → ℕ) (v : Fin 4096 → α) (z : α) (b : Fin 16) (l : Fin 512) : α :=
  if h : c b.castSucc + l.val < c b.succ ∧ c b.castSucc + l.val < 4096 then v ⟨c b.castSucc + l.val, h.2⟩ else z

theorem padded_map {α β : Type*} (g : α → β) (c : Fin 17 → ℕ) (v : Fin 4096 → α) (z : α) (b : Fin 16) (l : Fin 512) :
    g (padded c v z b l) = padded c (fun i => g (v i)) (g z) b l := by
  unfold padded
  split <;> rfl

theorem padded_map₂ {α β γ : Type*} (g : α → β → γ) (c : Fin 17 → ℕ) (v : Fin 4096 → α) (w : Fin 4096 → β) (z : α) (y : β)
    (b : Fin 16) (l : Fin 512) :
    g (padded c v z b l) (padded c w y b l) = padded c (fun i => g (v i) (w i)) (g z y) b l := by
  unfold padded
  split <;> rfl

/-- The cell a node of the graph is copied to. -/
theorem padded_of_mem {α : Type*} {c : Fin 17 → ℕ} (v : Fin 4096 → α) (z : α) (b : Fin 16) (i : Fin 4096) (h : InSeg c b i)
    (hl : i.val - c b.castSucc < 512) : padded c v z b ⟨i.val - c b.castSucc, hl⟩ = v i := by
  obtain ⟨h1, h2⟩ := h
  have hi := i.isLt
  have e : c b.castSucc + (i.val - c b.castSucc) = i.val := by omega
  unfold padded
  rw [dif_pos ⟨by simp only [e]; exact h2, by simp only [e]; exact hi⟩]
  congr 1
  exact Fin.ext e

/-- A sum along a padded row filled with zero is the sum over the graph's nodes. -/
theorem sum_padded {c : Fin 17 → ℕ} (hc : Good c) (v : Fin 4096 → EReal) (b : Fin 16) :
    ∑ l, padded c v 0 b l = ∑ i ∈ segment c b, v i := by
  symm
  refine Finset.sum_of_injOn (fun i : Fin 4096 => (⟨(i.val - c b.castSucc) % 512, Nat.mod_lt _ (by norm_num)⟩ : Fin 512)) ?_ ?_ ?_ ?_
  · intro i hi j hj hij
    have h1 := mem_segment.1 hi
    have h2 := mem_segment.1 hj
    have hs := hc.short b
    simp only [Fin.mk.injEq] at hij
    unfold InSeg at h1 h2
    rw [Nat.mod_eq_of_lt (by omega), Nat.mod_eq_of_lt (by omega)] at hij
    exact Fin.ext (by omega)
  · intro i _
    simp
  · intro l _ hl
    unfold padded
    split
    · next h =>
      exfalso
      refine hl ⟨⟨c b.castSucc + l.val, h.2⟩, ?_, ?_⟩
      · exact mem_segment.2 ⟨Nat.le_add_right _ _, h.1⟩
      · exact Fin.ext (by simp [Nat.mod_eq_of_lt l.isLt])
    · rfl
  · intro i hi
    have h := mem_segment.1 hi
    have hs := hc.short b
    have hl : i.val - c b.castSucc < 512 := by
      unfold InSeg at h
      omega
    have e := padded_of_mem v 0 b i h hl
    rw [← e]
    congr 1
    exact Fin.ext (Nat.mod_eq_of_lt hl).symm

/-- The largest entry of a padded row filled with minus infinity is the largest over the graph's nodes. -/
theorem sup_padded {c : Fin 17 → ℕ} (hc : Good c) (v : Fin 4096 → EReal) (b : Fin 16) :
    Finset.univ.sup (padded c v ⊥ b) = (segment c b).sup v := by
  refine le_antisymm (Finset.sup_le fun l _ => ?_) (Finset.sup_le fun i hi => ?_)
  · unfold padded
    split
    · next h => exact Finset.le_sup (f := v) (mem_segment.2 ⟨Nat.le_add_right _ _, h.1⟩)
    · exact bot_le
  · have h := mem_segment.1 hi
    have hs := hc.short b
    have hl : i.val - c b.castSucc < 512 := by
      unfold InSeg at h
      omega
    rw [← padded_of_mem v ⊥ b i h hl]
    exact Finset.le_sup (f := padded c v ⊥ b) (Finset.mem_univ _)

/-- The attention pooling along the padded row: the softmax of the masked scores against the padded features. -/
def rowPooled (c : Fin 17 → ℕ) (s : Fin 4096 → EReal) (f : Fin 4096 → Fin 256 → EReal) (b : Fin 16) (k : Fin 256) : EReal :=
  ∑ l, Ideal.div (Ideal.exp (padded c s ⊥ b l - Finset.univ.sup (padded c s ⊥ b)))
      (∑ j, Ideal.exp (padded c s ⊥ b j - Finset.univ.sup (padded c s ⊥ b))) * padded c (fun i => f i k) 0 b l

/-- The mean along the padded row: the masked sum over the number of marked cells, at least one. -/
def rowMean (c : Fin 17 → ℕ) (f : Fin 4096 → Fin 256 → EReal) (b : Fin 16) (d : Fin 256) : EReal :=
  Ideal.div (∑ l, padded c (fun i => f i d) 0 b l * padded c (fun _ => 1) 0 b l) (max (∑ l, padded c (fun _ => 1) 0 b l) 1)

/-- The graph's largest score is within 69 of the batch's, a real number. -/
def Near (c : Fin 17 → ℕ) (s : Fin 4096 → EReal) (b : Fin 16) : Prop :=
  c b.castSucc = c b.succ ∨ ∃ T : ℝ, top s = T ∧ ((T - 69 : ℝ) : EReal) ≤ (segment c b).sup s

theorem segment_eq_empty {c : Fin 17 → ℕ} {b : Fin 16} (h : c b.castSucc = c b.succ) : segment c b = ∅ := by
  refine Finset.eq_empty_of_forall_notMem fun i hi => ?_
  obtain ⟨h1, h2⟩ := mem_segment.1 hi
  omega

/-- A sum over all nodes of terms that vanish off the graph is a sum over the graph. -/
theorem sum_ite_segment (c : Fin 17 → ℕ) (b : Fin 16) (v : Fin 4096 → EReal) :
    ∑ i, (if InSeg c b i then v i else 0) = ∑ i ∈ segment c b, v i := by
  rw [segment, Finset.sum_filter]

/-- The two attention poolings agree. -/
theorem pooled_eq_rowPooled {c : Fin 17 → ℕ} (hc : Good c) (s : Fin 4096 → EReal) (f : Fin 4096 → Fin 256 → EReal)
    (hf : ∀ i k, 0 ≤ f i k) (b : Fin 16) (hn : Near c s b) (k : Fin 256) : pooled c s f b k = rowPooled c s f b k := by
  have hw : ∀ i, weight c s b i * f i k = if InSeg c b i then Ideal.exp (s i - top s) * f i k else 0 := fun i => by
    unfold weight
    split
    · rfl
    · exact zero_mul _
  unfold pooled rowPooled
  rw [Finset.sum_congr rfl (fun i _ => hw i), sum_ite_segment, show ∑ i, weight c s b i = _ from sum_ite_segment c b _,
    sup_padded hc]
  rcases hn with h | ⟨T, hT, h69⟩
  · have hz : ∀ l, padded c (fun i => f i k) 0 b l = 0 := fun l => by
      unfold padded
      rw [dif_neg (by omega)]
    simp only [segment_eq_empty h, Finset.sum_empty, zero_mul, hz, mul_zero, Finset.sum_const_zero]
  · have hle : ∀ i, s i ≤ (T : EReal) := fun i => hT ▸ Finset.le_sup (f := s) (Finset.mem_univ i)
    obtain ⟨m, hm⟩ : ∃ m : ℝ, (segment c b).sup s = (m : EReal) := by
      have h2 : (segment c b).sup s ≤ (T : EReal) := Finset.sup_le fun i _ => hle i
      induction h : (segment c b).sup s with
      | bot =>
        rw [h] at h69
        exact absurd (le_bot_iff.1 h69) (EReal.coe_ne_bot _)
      | top =>
        rw [h] at h2
        exact absurd (top_le_iff.1 h2) (EReal.coe_ne_top _)
      | coe r => exact ⟨r, rfl⟩
    have hb : Ideal.exp (⊥ - (m : EReal)) = 0 := by simp
    rw [hm] at h69 ⊢
    have he : ∀ l, Ideal.exp (padded c s ⊥ b l - (m : EReal)) = padded c (fun i => Ideal.exp (s i - (m : EReal))) 0 b l := fun l => by
      rw [padded_map (fun x => Ideal.exp (x - (m : EReal))), hb]
    simp only [he, sum_padded hc]
    rw [hT, softmax_sum (segment c b) s (fun i => f i k) (fun i => hf i k) T m hm (fun i _ => hle i) (EReal.coe_le_coe_iff.1 h69),
      ← sum_padded hc]
    refine Finset.sum_congr rfl fun l _ => ?_
    unfold padded
    split
    · rfl
    · exact (mul_zero _).symm

/-- The number of nodes of a graph, counted one by one. -/
theorem sum_one_segment {c : Fin 17 → ℕ} (hc : Good c) (b : Fin 16) :
    ∑ _i ∈ segment c b, (1 : EReal) = (((c b.succ - c b.castSucc : ℕ) : ℝ) : EReal) := by
  have hcard : (segment c b).card = c b.succ - c b.castSucc := by
    have hle := hc.le b.succ
    rw [← Nat.card_Ico]
    refine Finset.card_nbij (fun i => i.val) ?_ ?_ ?_
    · intro i hi
      obtain ⟨h1, h2⟩ := mem_segment.1 hi
      simpa using ⟨h1, h2⟩
    · intro i _ j _ h
      exact Fin.ext h
    · intro n hn
      have hn' : c b.castSucc ≤ n ∧ n < c b.succ := by simpa using hn
      exact ⟨⟨n, by omega⟩, mem_segment.2 hn', rfl⟩
  have h := coe_sum (segment c b) (fun _ => (1 : ℝ))
  simp only [Finset.sum_const, hcard] at h ⊢
  simpa using h

/-- The two means agree. -/
theorem mean_eq_rowMean {c : Fin 17 → ℕ} (hc : Good c) (f : Fin 4096 → Fin 256 → EReal) (b : Fin 16) (d : Fin 256) :
    mean c f b d = rowMean c f b d := by
  have hw : ∀ i, (if InSeg c b i then (1 : EReal) else 0) * f i d = if InSeg c b i then f i d else 0 := fun i => by
    split
    · exact one_mul _
    · exact zero_mul _
  have hp : ∀ l, padded c (fun i => f i d) 0 b l * padded c (fun _ => (1 : EReal)) 0 b l = padded c (fun i => f i d) 0 b l := fun l => by
    unfold padded
    split
    · exact mul_one _
    · exact mul_zero _
  unfold mean rowMean
  rw [Finset.sum_congr rfl (fun i _ => hw i), sum_ite_segment, Finset.sum_congr rfl (fun l _ => hp l), sum_padded hc, sum_padded hc,
    sum_one_segment hc, show (1 : EReal) = ((1 : ℝ) : EReal) from rfl, ← EReal.coe_strictMono.monotone.map_max]
  have hpos : (0 : ℝ) < max ((c b.succ - c b.castSucc : ℕ) : ℝ) 1 := lt_of_lt_of_le one_pos (le_max_right _ _)
  rw [Ideal.div_coe hpos.ne', Ideal.div_coe hpos.ne', show ((1 : ℝ) : EReal) = 1 from rfl, one_mul]

end Cert.Pooling

end
-- ==== Proof.Cells.lean ====
/-
  Where the reference copies each node: the graph a node belongs to is the number of boundaries at most the node, less
  one; its cell in the graph's row is its distance from the graph's first boundary. The arrays the copies leave are the
  padded rows of `Padded.lean`.
-/
module

public import proofs.«01_k».proof.Proof.Gen.ReferenceIdeal
public import proofs.«01_k».proof.Proof.Padded
public import Idealize.ShloMosaic.Lib.Pointwise
public import Idealize.ShloMosaic.Lib.Routing.OpsSet

@[expose] public section

set_option maxRecDepth 16384

noncomputable section

open Idealize.ShloMosaic Idealize.ShloMosaic.TcCoe Idealize.SL.Sem
open Cert.Pooling

namespace Cert.ReferenceIdeal.Cells

open Cert.ReferenceIdeal Cert.ReferenceIdeal.Gen

/-! ## The owner of a node, in natural numbers -/

/-- Under good boundaries every node has an owner: the last boundary at most the node. The number of boundaries at most
the node is the owner's number plus one, and the owner is a graph exactly when the node is one of its nodes. -/
theorem exists_owner {c : Fin 17 → ℕ} (hc : Good c) (i : Fin 4096) :
    ∃ o : Fin 17, (Finset.univ.filter fun j : Fin 17 => c j ≤ i.val).card = o.val + 1 ∧ c o ≤ i.val
      ∧ ∀ b : Fin 16, o = b.castSucc ↔ InSeg c b i := by
  have hne : (Finset.univ.filter fun j : Fin 17 => c j ≤ i.val).Nonempty := ⟨0, by simp [hc.zero]⟩
  obtain ⟨o, ho, hmax⟩ := Finset.exists_max_image _ (fun j : Fin 17 => j) hne
  have ho' : c o ≤ i.val := by simpa using ho
  have hmem : ∀ j, c j ≤ i.val ↔ j ≤ o := fun j =>
    ⟨fun h => hmax j (by simpa using h), fun h => (hc.monotone h).trans ho'⟩
  refine ⟨o, ?_, ho', fun b => ⟨?_, fun h => ?_⟩⟩
  · rw [show (Finset.univ.filter fun j : Fin 17 => c j ≤ i.val) = Finset.Iic o by ext j; simp [hmem], Fin.card_Iic]
  · rintro rfl
    refine ⟨ho', ?_⟩
    by_contra hlt
    have h := (hmem b.succ).1 (by omega)
    exact absurd h (by simp [Fin.le_def])
  · obtain ⟨h1, h2⟩ := h
    have h3 := (hmem _).1 h1
    have h4 : ¬ b.succ ≤ o := fun h => by
      have := (hmem _).2 h
      omega
    rw [Fin.le_def] at h3 h4
    simp only [Fin.val_castSucc, Fin.val_succ] at h3 h4
    exact Fin.ext (by simp only [Fin.val_castSucc]; omega)

/-! ## The reference's words -/

/-- For every node, the number of boundaries at most the node, less one. -/
def graphOf (cu : IVec S17 32) : IVec S4096 32 :=
  subi (Host.reduce IntOp.addi (extui 32 (cmpi .sle (broadcastInDim S4096x17 ![0, 1] bcast_S1x17_S4096x17_0_1 (broadcastInDim S1x17 ![1] bcast_S17_S1x17_1 cu)) (broadcastInDim S4096x17 ![0, 1] bcast_S4096x1_S4096x17_0_1 (broadcastInDim S4096x1 ![0] bcast_S4096_S4096x1_0 (iotaInDim S4096 32 0)))) natLt_1_32) (constantI S_ 32 0#32) reducesTo_S4096x17_S4096_d1 h_S_) (broadcastInDim S4096 ![] bcast_S_S4096 (constantI S_ 32 1#32))

/-- For every node, its distance from the boundary its graph starts at. -/
def posOf (cu : IVec S17 32) : IVec S4096 32 :=
  subi (iotaInDim S4096 32 0) (Host.gather gather_S17_S4096x1_S4096_n_0_n_n_0_1_1 cu (broadcastInDim S4096x1 ![0] bcast_S4096_S4096x1_0 (select (cmpi .slt (graphOf cu) (broadcastInDim S4096 ![] bcast_S_S4096 (constantI S_ 32 0#32))) (addi (graphOf cu) (broadcastInDim S4096 ![] bcast_S_S4096 (constantI S_ 32 17#32))) (graphOf cu))))

/-- For every node, the pair of the two: the cell it is copied to. -/
def cells (cu : IVec S17 32) : IVec S4096x2 32 :=
  concatenate S4096x2 1 [⟨S4096x1, (broadcastInDim S4096x1 ![0] bcast_S4096_S4096x1_0 (select (cmpi .slt (graphOf cu) (broadcastInDim S4096 ![] bcast_S_S4096 (constantI S_ 32 0#32))) (addi (graphOf cu) (broadcastInDim S4096 ![] bcast_S_S4096 (constantI S_ 32 16#32))) (graphOf cu)))⟩, ⟨S4096x1, (broadcastInDim S4096x1 ![0] bcast_S4096_S4096x1_0 (select (cmpi .slt (posOf cu) (broadcastInDim S4096 ![] bcast_S_S4096 (constantI S_ 32 0#32))) (addi (posOf cu) (broadcastInDim S4096 ![] bcast_S_S4096 (constantI S_ 32 512#32))) (posOf cu)))⟩] concatenates_S4096x1_S4096x1_S4096x2_d1

/-- The boundaries as natural numbers. -/
def cuts (cu : IVec S17 32) (j : Fin 17) : ℕ := (cu (ix1 j)).toNat

/-- Adding up the bits of finitely many decided propositions, as words, counts the true ones. -/
theorem fold_bits {ι : Type*} (S : Finset ι) (p : ι → Prop) [DecidablePred p] :
    Finset.fold IntOp.addi 0#32 (fun x => BitVec.setWidth 32 (BitVec.ofBool (decide (p x)))) S
      = BitVec.ofNat 32 (S.filter p).card := by
  classical
  induction S using Finset.induction_on with
  | empty => rfl
  | insert a S ha ih =>
    rw [Finset.fold_insert ha, ih, Finset.filter_insert]
    by_cases h : p a
    · rw [if_pos h, Finset.card_insert_of_notMem (by simp [ha]), decide_eq_true h, Nat.add_comm, BitVec.ofNat_add]
      rfl
    · rw [if_neg h, decide_eq_false h]
      exact BitVec.zero_add _

variable {cu : IVec S17 32} (hc : Good (cuts cu))
include hc

theorem toInt_cut (j : Fin 17) : (cu (ix1 j)).toInt = (cuts cu j : ℤ) :=
  WordCmp.toInt_eq_toNat_of_lt_half (lt_of_le_of_lt (hc.le j) (by norm_num))

theorem graphOf_read (i : Fin 4096) (o : Fin 17) (ho : (Finset.univ.filter fun j : Fin 17 => cuts cu j ≤ i.val).card = o.val + 1) :
    graphOf cu (ix1 i) = BitVec.ofNat 32 o.val := by
  have hi := i.isLt
  have e : ∀ x : Fin 17, IntOp.cmpi .sle (cu (ix1 x)) (BitVec.ofNat 32 i.val) = BitVec.ofBool (decide (cuts cu x ≤ i.val)) := fun x => by
    rw [WordCmp.cmpi_sle_eq, toInt_cut hc, WordCmp.toInt_ofNat_of_lt (by norm_num; omega)]
    simp
  pointwise [graphOf]
  simp only [e, fold_bits, ho]
  rw [BitVec.ofNat_add]
  change BitVec.ofNat 32 o.val + 1#32 - 1#32 = _
  exact BitVec.add_sub_cancel _ _

theorem posOf_read (i : Fin 4096) (o : Fin 17) (ho : (Finset.univ.filter fun j : Fin 17 => cuts cu j ≤ i.val).card = o.val + 1)
    (hle : cuts cu o ≤ i.val) : posOf cu (ix1 i) = BitVec.ofNat 32 (i.val - cuts cu o) := by
  have ho17 := o.isLt
  have hi := i.isLt
  have key : ∀ w : IVec S4096x1 32, w (ix2 i 0) = BitVec.ofNat 32 o.val →
      Host.gather gather_S17_S4096x1_S4096_n_0_n_n_0_1_1 cu w (ix1 i) = cu (ix1 o) := fun w hw =>
    Routing.gather_take1 gather_S17_S4096x1_S4096_n_0_n_n_0_1_1 rfl rfl rfl rfl cu w i o hw (by norm_num)
  pointwise [posOf]
  rw [key]
  · have e : cu (ix1 o) = BitVec.ofNat 32 (cuts cu o) := by simp [cuts]
    rw [e]
    apply BitVec.eq_of_toNat_eq
    change (BitVec.ofNat 32 i.val - BitVec.ofNat 32 (cuts cu o)).toNat = _
    rw [BitVec.toNat_sub, WordCmp.toNat_ofNat_of_lt (by omega), WordCmp.toNat_ofNat_of_lt (by omega), WordCmp.toNat_ofNat_of_lt (by omega)]
    omega
  · pointwise
    rw [graphOf_read hc i o ho]
    exact Routing.wrap_of_lt _ _ (by rw [WordCmp.toNat_ofNat_of_lt (by omega)]; norm_num; omega)

theorem cells_read (i : Fin 4096) (o : Fin 17) (ho : (Finset.univ.filter fun j : Fin 17 => cuts cu j ≤ i.val).card = o.val + 1)
    (hle : cuts cu o ≤ i.val) :
    (cells cu (ix2 i 0)).toInt = (o.val : ℤ) ∧ (cells cu (ix2 i 1)).toInt = ((i.val - cuts cu o : ℕ) : ℤ) := by
  have ho17 := o.isLt
  have hi := i.isLt
  constructor
  · pointwise [cells]
    rw [graphOf_read hc i o ho, Routing.wrap_of_lt _ _ (by rw [WordCmp.toNat_ofNat_of_lt (by omega)]; norm_num; omega)]
    exact WordCmp.toInt_ofNat_of_lt (by norm_num; omega)
  · pointwise [cells]
    rw [posOf_read hc i o ho hle, Routing.wrap_of_lt _ _ (by rw [WordCmp.toNat_ofNat_of_lt (by omega)]; norm_num; omega)]
    exact WordCmp.toInt_ofNat_of_lt (by norm_num; omega)

/-- Node `i` is copied to cell `l` of row `b` exactly when it is the graph's `l`-th node. -/
theorem cells_eq (i : Fin 4096) (b : Fin 16) (l : Fin 512) :
    ((cells cu (ix2 i 0)).toInt = (b.val : ℤ) ∧ (cells cu (ix2 i 1)).toInt = (l.val : ℤ))
      ↔ InSeg (cuts cu) b i ∧ i.val = cuts cu b.castSucc + l.val := by
  obtain ⟨o, hcard, hle, hown⟩ := exists_owner hc i
  obtain ⟨e0, e1⟩ := cells_read hc i o hcard hle
  rw [e0, e1]
  constructor
  · rintro ⟨h0, h1⟩
    have ho : o = b.castSucc := Fin.ext (by simpa using h0)
    subst ho
    refine ⟨(hown b).1 rfl, ?_⟩
    omega
  · rintro ⟨h0, h1⟩
    have ho := (hown b).2 h0
    subst ho
    exact ⟨by simp, by omega⟩

/-! ## The copies -/

omit hc in
theorem start3 (idx : IVec S4096x2 32) (k : Shape.Idx S4096x256) :
    scatter_S16x512x256_S4096x2_S4096x256_1_01_01_1.start k idx 0 = (idx (ix2 (k 0) 0)).toInt
      ∧ scatter_S16x512x256_S4096x2_S4096x256_1_01_01_1.start k idx 1 = (idx (ix2 (k 0) 1)).toInt
      ∧ scatter_S16x512x256_S4096x2_S4096x256_1_01_01_1.start k idx 2 = 0 := by
  refine ⟨?_, ?_, rfl⟩
  · refine congrArg (fun z => (idx z).toInt) (funext fun a => ?_)
    fin_cases a <;> rfl
  · refine congrArg (fun z => (idx z).toInt) (funext fun a => ?_)
    fin_cases a <;> rfl

omit hc in
theorem start2 (idx : IVec S4096x2 32) (k : Shape.Idx S4096) :
    scatter_S16x512_S4096x2_S4096_n_01_01_1.start k idx 0 = (idx (ix2 (k 0) 0)).toInt
      ∧ scatter_S16x512_S4096x2_S4096_n_01_01_1.start k idx 1 = (idx (ix2 (k 0) 1)).toInt := by
  refine ⟨?_, ?_⟩
  · refine congrArg (fun z => (idx z).toInt) (funext fun a => ?_)
    fin_cases a <;> rfl
  · refine congrArg (fun z => (idx z).toInt) (funext fun a => ?_)
    fin_cases a <;> rfl

/-- Copying feature rows: node `i`'s feature `e` lands at cell `(b, l, d)` exactly when `i` is the `l`-th node of graph
`b` and the features are the same. -/
theorem lands3 (k : Shape.Idx S4096x256) (b : Fin 16) (l : Fin 512) (d : Fin 256) :
    scatter_S16x512x256_S4096x2_S4096x256_1_01_01_1.resultIdx? k (cells cu) = some (ix3 b l d)
      ↔ (InSeg (cuts cu) b (k 0) ∧ (k 0).val = cuts cu b.castSucc + l.val) ∧ (k 1).val = d.val := by
  rw [← cells_eq hc (k 0) b l, Routing.resultIdx?_eq_some]
  obtain ⟨s0, s1, s2⟩ := start3 (cells cu) k
  have w0 : scatter_S16x512x256_S4096x2_S4096x256_1_01_01_1.window k 0 = 0 := rfl
  have w1 : scatter_S16x512x256_S4096x2_S4096x256_1_01_01_1.window k 1 = 0 := rfl
  have w2 : scatter_S16x512x256_S4096x2_S4096x256_1_01_01_1.window k 2 = (k 1).val := rfl
  constructor
  · intro h
    have h0 := h 0
    have h1 := h 1
    have h2 := h 2
    rw [s0, w0] at h0
    rw [s1, w1] at h1
    rw [s2, w2] at h2
    refine ⟨⟨?_, ?_⟩, ?_⟩
    · simpa using h0
    · simpa using h1
    · have h2' : (0 : ℤ) + ((k 1).val : ℤ) = (d.val : ℤ) := h2
      omega
  · rintro ⟨⟨h0, h1⟩, h2⟩ a
    have ha : a = 0 ∨ a = 1 ∨ a = 2 := by
      have := a.isLt
      revert a
      decide
    rcases ha with rfl | rfl | rfl
    · rw [s0, w0, h0]
      exact add_zero _
    · rw [s1, w1, h1]
      exact add_zero _
    · rw [s2, w2, h2]
      exact zero_add _

/-- Marking cells: node `i`'s mark lands at cell `(b, l)` exactly when `i` is the `l`-th node of graph `b`. -/
theorem lands2 (k : Shape.Idx S4096) (b : Fin 16) (l : Fin 512) :
    scatter_S16x512_S4096x2_S4096_n_01_01_1.resultIdx? k (cells cu) = some (ix2 b l)
      ↔ InSeg (cuts cu) b (k 0) ∧ (k 0).val = cuts cu b.castSucc + l.val := by
  rw [← cells_eq hc (k 0) b l, Routing.resultIdx?_eq_some]
  obtain ⟨s0, s1⟩ := start2 (cells cu) k
  have w0 : scatter_S16x512_S4096x2_S4096_n_01_01_1.window k 0 = 0 := rfl
  have w1 : scatter_S16x512_S4096x2_S4096_n_01_01_1.window k 1 = 0 := rfl
  constructor
  · intro h
    have h0 := h 0
    have h1 := h 1
    rw [s0, w0] at h0
    rw [s1, w1] at h1
    refine ⟨?_, ?_⟩
    · simpa using h0
    · simpa using h1
  · rintro ⟨h0, h1⟩ a
    have ha : a = 0 ∨ a = 1 := by
      have := a.isLt
      revert a
      decide
    rcases ha with rfl | rfl
    · rw [s0, w0, h0]
      exact add_zero _
    · rw [s1, w1, h1]
      exact add_zero _

/-- The copied feature rows are the padded rows. -/
theorem copies_read {α : Type} (z : α) (x0 : Shape.Idx S16x512x256 → α) (hz : ∀ j, x0 j = z) (v : Shape.Idx S4096x256 → α) (b : Fin 16) (l : Fin 512) (d : Fin 256) :
    Host.scatter scatter_S16x512x256_S4096x2_S4096x256_1_01_01_1 (fun _ y => y) x0 (cells cu) v (ix3 b l d)
      = padded (cuts cu) (fun i => v (ix2 i d)) z b l := by
  unfold padded
  split
  · next h =>
    refine Routing.scatter_set_hit _ _ _ _ _ _ (fun k hk => ?_) (ix2 ⟨cuts cu b.castSucc + l.val, h.2⟩ d) ?_
    · obtain ⟨⟨_, h1⟩, h2⟩ := (lands3 hc k b l d).1 hk
      refine congrArg v (funext fun a => ?_)
      have ha : a = 0 ∨ a = 1 := by
        have := a.isLt
        revert a
        decide
      rcases ha with rfl | rfl
      · exact Fin.ext h1
      · exact Fin.ext h2
    · exact (lands3 hc _ b l d).2 ⟨⟨⟨Nat.le_add_right _ _, h.1⟩, rfl⟩, rfl⟩
  · next h =>
    rw [Routing.scatter_set_miss, hz]
    intro k hk
    obtain ⟨⟨h0, h1⟩, _⟩ := (lands3 hc k b l d).1 hk
    exact h ⟨h1 ▸ h0.2, h1 ▸ (k 0).isLt⟩

/-- The marked cells are the padded rows of the marks. -/
theorem marks_read {α : Type} (z : α) (x0 : Shape.Idx S16x512 → α) (hz : ∀ j, x0 j = z) (v : Shape.Idx S4096 → α) (b : Fin 16) (l : Fin 512) :
    Host.scatter scatter_S16x512_S4096x2_S4096_n_01_01_1 (fun _ y => y) x0 (cells cu) v (ix2 b l)
      = padded (cuts cu) (fun i => v (ix1 i)) z b l := by
  unfold padded
  split
  · next h =>
    refine Routing.scatter_set_hit _ _ _ _ _ _ (fun k hk => ?_) (ix1 ⟨cuts cu b.castSucc + l.val, h.2⟩) ?_
    · obtain ⟨_, h1⟩ := (lands2 hc k b l).1 hk
      refine congrArg v (funext fun a => ?_)
      have ha : a = 0 := by
        have := a.isLt
        revert a
        decide
      subst ha
      exact Fin.ext h1
    · exact (lands2 hc _ b l).2 ⟨⟨Nat.le_add_right _ _, h.1⟩, rfl⟩
  · next h =>
    rw [Routing.scatter_set_miss, hz]
    intro k hk
    obtain ⟨h0, h1⟩ := (lands2 hc k b l).1 hk
    exact h ⟨h1 ▸ h0.2, h1 ▸ (k 0).isLt⟩

end Cert.ReferenceIdeal.Cells

end
-- ==== Proof.RefScores.lean ====
/-
  What the reference computes on the way: the dense layers, the padded features, the masked scores and their
  exponentials are the padded rows of `Padded.lean` over the plain functions of the arguments.
-/
module

public import proofs.«01_k».proof.Proof.Gen.ReferenceIdeal.Run
public import proofs.«01_k».proof.Proof.Cells

@[expose] public section

set_option maxRecDepth 16384

noncomputable section

open Idealize.ShloMosaic Idealize.ShloMosaic.TcCoe Idealize.SL.Sem
open Cert.Pooling

namespace Cert.ReferenceIdeal.Scores

open Cert.ReferenceIdeal Cert.ReferenceIdeal.Gen Cert.ReferenceIdeal.Value Cert.ReferenceIdeal.Cells

variable (V : Valuation τ sig (Elt Ideal))

/-- The base features of the arguments. -/
def feats : Fin 4096 → Fin 256 → EReal :=
  dense (fun i j => V (Proc.devRef .tc main_arg0) (ix2 i j)) (fun i j => V (Proc.devRef .tc main_arg2) (ix2 i j))
    (fun d => V (Proc.devRef .tc main_arg3) (ix1 d))

/-- The first encoder's features. -/
def featsP : Fin 4096 → Fin 256 → EReal :=
  dense (feats V) (fun i j => V (Proc.devRef .tc main_arg4) (ix2 i j)) (fun d => V (Proc.devRef .tc main_arg5) (ix1 d))

/-- The second encoder's features. -/
def featsR : Fin 4096 → Fin 256 → EReal :=
  dense (feats V) (fun i j => V (Proc.devRef .tc main_arg6) (ix2 i j)) (fun d => V (Proc.devRef .tc main_arg7) (ix1 d))

/-- The first encoder's scores. -/
def scoresP : Fin 4096 → EReal := score (fun d => V (Proc.devRef .tc main_arg8) (ix1 d)) (featsP V)

/-- The second encoder's scores. -/
def scoresR : Fin 4096 → EReal := score (fun d => V (Proc.devRef .tc main_arg10) (ix1 d)) (featsR V)

/-- The boundaries as natural numbers. -/
abbrev bounds : Fin 17 → ℕ := cuts (V (Proc.devRef .tc main_arg1))

/-- The reference's base features. -/
theorem base_read (i : Fin 4096) (d : Fin 256) : res_main_v4 V (ix2 i d) = feats V i d := by
  pointwise [res_main_v4]
  rfl

/-- A rectified dense layer over the base features, as the reference writes it. -/
theorem layer_read (w : FVec Ideal S256x256 .f32) (b : FVec Ideal S256 .f32) (i : Fin 4096) (d : Fin 256) :
    maximumf (addf (Host.dotGeneral dot_S4096x256_S256x256_S4096x256_1_0_0_1_n_n none (res_main_v4 V) w) (broadcastInDim S4096x256 ![0, 1] bcast_S1x256_S4096x256_0_1 (broadcastInDim S1x256 ![1] bcast_S256_S1x256_1 b))) (broadcastInDim S4096x256 ![] bcast_S_S4096x256 (constant S_ .f32 0x00000000#32)) (ix2 i d)
      = dense (feats V) (fun i j => w (ix2 i j)) (fun j => b (ix1 j)) i d := by
  pointwise
  simp only [base_read]
  rfl

/-! ## One attention pooling and the mean, as the reference writes them -/

/-- The masked scores of padded features `p` under the mask `q`. -/
def masked (q : FVec Ideal S16x512 .f32) (p : FVec Ideal S16x512x256 .f32) (a : FVec Ideal S256 .f32) : FVec Ideal S16x512 .f32 :=
  select (cmpf .ogt q (broadcastInDim S16x512 ![] bcast_S_S16x512 (constant S_ .f32 0x00000000#32))) (Host.dotGeneral dot_S16x512x256_S256_S16x512_2_0_01_n_n_n none p a) (broadcastInDim S16x512 ![] bcast_S_S16x512 (constant S_ .f32 0xFF800000#32))

/-- The exponentials of scores against the largest of their row. -/
def exponentials (z : FVec Ideal S16x512 .f32) : FVec Ideal S16x512 .f32 :=
  Host.exp (subf z (broadcastInDim S16x512 ![0, 1] bcast_S16x1_S16x512_0_1 (broadcastInDim S16x1 ![0] bcast_S16_S16x1_0 (maximumf (broadcastInDim S16 ![] bcast_S_S16 (constant S_ .f32 0xFF800000#32)) (Host.reduce FloatOps.maximumf z (constant S_ .f32 0xFF800000#32) reducesTo_S16x512_S16_d1 h_S_)))))

/-- The pooled features of exponentials `e` and padded features `p`, times the query matrix. -/
def queries (e : FVec Ideal S16x512 .f32) (p : FVec Ideal S16x512x256 .f32) (w : FVec Ideal S256x256 .f32) : FVec Ideal S16x256 .f32 :=
  Host.dotGeneral dot_S16x256_S256x256_S16x256_1_0_0_1_n_n none (Host.dotGeneral dot_S16x512_S16x512x256_S16x256_1_1_n_2_0_0 none (Host.divf e (broadcastInDim S16x512 ![0, 1] bcast_S16x1_S16x512_0_1 (broadcastInDim S16x1 ![0] bcast_S16_S16x1_0 (Host.reduceAdd e (constant S_ .f32 0x00000000#32) reducesTo_S16x512_S16_d1 h_S_)))) p) w

/-- The mean of padded features `p` over the cells marked in `q`. -/
def means (q : FVec Ideal S16x512 .f32) (p : FVec Ideal S16x512x256 .f32) : FVec Ideal S16x256 .f32 :=
  Host.divf (Host.reduceAdd (mulf p (broadcastInDim S16x512x256 ![0, 1, 2] bcast_S16x512x1_S16x512x256_0_1_2 (broadcastInDim S16x512x1 ![0, 1] bcast_S16x512_S16x512x1_0_1 q))) (constant S_ .f32 0x00000000#32) reducesTo_S16x512x256_S16x256_d1 h_S_) (broadcastInDim S16x256 ![0, 1] bcast_S16x1_S16x256_0_1 (maximumf (broadcastInDim S16x1 ![0] bcast_S16_S16x1_0 (Host.reduceAdd q (constant S_ .f32 0x00000000#32) reducesTo_S16x512_S16_d1 h_S_)) (broadcastInDim S16x1 ![] bcast_S_S16x1 (constant S_ .f32 0x3F800000#32))))

variable {c : Fin 17 → ℕ}

theorem masked_read (q : FVec Ideal S16x512 .f32) (p : FVec Ideal S16x512x256 .f32) (a : FVec Ideal S256 .f32)
    (f : Fin 4096 → Fin 256 → EReal) (hq : ∀ b l, q (ix2 b l) = padded c (fun _ => (1 : EReal)) 0 b l)
    (hp : ∀ b l d, p (ix3 b l d) = padded c (fun i => f i d) 0 b l) (b : Fin 16) (l : Fin 512) :
    masked q p a (ix2 b l) = padded c (score (fun d => a (ix1 d)) f) ⊥ b l := by
  pointwise [masked]
  simp only [hq, hp, ofBits_neg_inf]
  unfold padded
  split
  · rw [if_pos (show (0 : EReal) < 1 from zero_lt_one)]
    exact Finset.sum_congr rfl fun x _ => mul_comm _ _
  · exact if_neg (lt_irrefl _)

theorem exponentials_read (z : FVec Ideal S16x512 .f32) (s : Fin 4096 → EReal) (hz : ∀ b l, z (ix2 b l) = padded c s ⊥ b l)
    (b : Fin 16) (l : Fin 512) :
    exponentials z (ix2 b l) = Ideal.exp (padded c s ⊥ b l - Finset.univ.sup (padded c s ⊥ b)) := by
  pointwise [exponentials]
  simp only [hz, ofBits_neg_inf]
  rw [max_eq_right bot_le]
  rfl

theorem queries_read (e : FVec Ideal S16x512 .f32) (p : FVec Ideal S16x512x256 .f32) (w : FVec Ideal S256x256 .f32)
    (s : Fin 4096 → EReal) (f : Fin 4096 → Fin 256 → EReal)
    (he : ∀ b l, e (ix2 b l) = Ideal.exp (padded c s ⊥ b l - Finset.univ.sup (padded c s ⊥ b)))
    (hp : ∀ b l d, p (ix3 b l d) = padded c (fun i => f i d) 0 b l) (b : Fin 16) (d : Fin 256) :
    queries e p w (ix2 b d) = query (rowPooled c s f) (fun i j => w (ix2 i j)) b d := by
  pointwise [queries]
  simp only [he, hp]
  rfl

theorem means_read (q : FVec Ideal S16x512 .f32) (p : FVec Ideal S16x512x256 .f32) (f : Fin 4096 → Fin 256 → EReal)
    (hq : ∀ b l, q (ix2 b l) = padded c (fun _ => (1 : EReal)) 0 b l)
    (hp : ∀ b l d, p (ix3 b l d) = padded c (fun i => f i d) 0 b l) (b : Fin 16) (d : Fin 256) :
    means q p (ix2 b d) = rowMean c f b d := by
  pointwise [means]
  simp only [hq, hp]
  rfl

/-! ## The copies of the run -/

/-- The marks of the padded cells. -/
def marks (cu : IVec S17 32) : FVec Ideal S16x512 .f32 :=
  Host.scatter scatter_S16x512_S4096x2_S4096_n_01_01_1 (fun _ b => b) (broadcastInDim S16x512 ![] bcast_S_S16x512 (constant S_ .f32 0x00000000#32)) (cells cu) (broadcastInDim S4096 ![] bcast_S_S4096 (constant S_ .f32 0x3F800000#32))

/-- Feature rows copied to the padded cells. -/
def copies (cu : IVec S17 32) (v : FVec Ideal S4096x256 .f32) : FVec Ideal S16x512x256 .f32 :=
  Host.scatter scatter_S16x512x256_S4096x2_S4096x256_1_01_01_1 (fun _ b => b) (broadcastInDim S16x512x256 ![] bcast_S_S16x512x256 (constant S_ .f32 0x00000000#32)) (cells cu) v

theorem marks_padded {cu : IVec S17 32} (hc : Good (cuts cu)) (b : Fin 16) (l : Fin 512) :
    marks cu (ix2 b l) = padded (cuts cu) (fun _ => (1 : EReal)) 0 b l := by
  refine (marks_read hc (0 : EReal) _ (fun j => ?_) _ b l).trans ?_
  · exact Ideal.ofBits_zero_f32
  · have h : ∀ i : Fin 4096, (broadcastInDim S4096 ![] bcast_S_S4096 (constant S_ .f32 0x3F800000#32) : FVec Ideal S4096 .f32) (ix1 i) = (1 : EReal) :=
      fun i => by pointwise
    simp only [h]

theorem copies_padded {cu : IVec S17 32} (hc : Good (cuts cu)) (v : FVec Ideal S4096x256 .f32) (f : Fin 4096 → Fin 256 → EReal)
    (hv : ∀ i d, v (ix2 i d) = f i d) (b : Fin 16) (l : Fin 512) (d : Fin 256) :
    copies cu v (ix3 b l d) = padded (cuts cu) (fun i => f i d) 0 b l := by
  refine (copies_read hc (0 : EReal) _ (fun j => ?_) _ b l d).trans ?_
  · exact Ideal.ofBits_zero_f32
  · simp only [hv]

variable {V}

/-- The reference's first result. -/
theorem keys_read (hc : Good (bounds V)) (b : Fin 16) (d : Fin 256) :
    means (res_main_v195 V) (copies (V (Proc.devRef .tc main_arg1)) (res_main_v4 V)) (ix2 b d) = rowMean (bounds V) (feats V) b d :=
  means_read _ _ _ (marks_padded hc) (copies_padded hc _ _ (base_read V)) b d

/-- The reference's second result. -/
theorem p_read (hc : Good (bounds V)) (b : Fin 16) (d : Fin 256) :
    queries (res_main_v69 V) (res_main_v42 V) (V (Proc.devRef .tc main_arg9)) (ix2 b d)
      = query (rowPooled (bounds V) (scoresP V) (featsP V)) (fun i j => V (Proc.devRef .tc main_arg9) (ix2 i j)) b d := by
  have hp : ∀ b l d, res_main_v42 V (ix3 b l d) = padded (bounds V) (fun i => featsP V i d) 0 b l :=
    copies_padded hc _ _ (layer_read V _ _)
  exact queries_read _ _ _ (scoresP V) (featsP V)
    (exponentials_read _ _ (masked_read _ _ (V (Proc.devRef .tc main_arg8)) (featsP V) (marks_padded hc) hp)) hp b d

/-- The reference's third result. -/
theorem r_read (hc : Good (bounds V)) (b : Fin 16) (d : Fin 256) :
    queries (res_main_v140 V) (res_main_v113 V) (V (Proc.devRef .tc main_arg11)) (ix2 b d)
      = query (rowPooled (bounds V) (scoresR V) (featsR V)) (fun i j => V (Proc.devRef .tc main_arg11) (ix2 i j)) b d := by
  have hp : ∀ b l d, res_main_v113 V (ix3 b l d) = padded (bounds V) (fun i => featsR V i d) 0 b l :=
    copies_padded hc _ _ (layer_read V _ _)
  exact queries_read _ _ _ (scoresR V) (featsR V)
    (exponentials_read _ _ (masked_read _ _ (V (Proc.devRef .tc main_arg10)) (featsR V) (marks_padded hc) hp)) hp b d

end Cert.ReferenceIdeal.Scores

end
-- ==== Proof.Boundaries.lean ====
/-
  What the precondition says, in plain terms: the boundaries are good ones, and in each of the two poolings every graph
  with nodes has its largest score within 69 of the whole batch's, which is a real number.
-/
module

public import proofs.«01_k».proof.Proof.Gen.Pre_scores_and_boundaries
public import proofs.«01_k».proof.Proof.Padded
public import Idealize.ShloMosaic.Lib.Affine
public import Idealize.ShloMosaic.Lib.WordCmp
public import Idealize.ShloMosaic.Lib.Pointwise

@[expose] public section

set_option maxRecDepth 16384

noncomputable section

open Idealize.ShloMosaic Idealize.ShloMosaic.TcCoe
open Cert.Pooling

namespace Cert.Boundaries

open Cert.Pre_scores_and_boundaries Cert.Pre_scores_and_boundaries.Gen

/-- A conjunction of bits over a finite set is 1 exactly when every bit is. -/
theorem fold_andi {ι : Type*} (s : Finset ι) (f : ι → BitVec 1) :
    s.fold IntOp.andi (1#1) f = 1#1 ↔ ∀ i ∈ s, f i = 1#1 := by
  classical
  induction s using Finset.induction_on with
  | empty => simp
  | insert a s ha ih => rw [Finset.fold_insert ha, IntOp.andi_eq_one, ih, Finset.forall_mem_insert]

/-- A disjunction of two bits is 1 exactly when one of them is. -/
theorem ori_one (a b : BitVec 1) : IntOp.ori a b = 1#1 ↔ a = 1#1 ∨ b = 1#1 := by revert a b; decide

/-- An extended real whose absolute value is below plus infinity is a real number. -/
theorem real_of_abs {x : EReal} (h : FloatOps.absf (F := Ideal) (φ := .f32) x < (⊤ : EReal)) : ∃ t : ℝ, x = t := by
  induction x with
  | bot => simp [FloatOps.absf] at h
  | top => simp [FloatOps.absf] at h
  | coe t => exact ⟨t, rfl⟩

/-! ## The boundaries -/

/-- The table's entry after entry `b`. -/
theorem next (a : IVec S17 32) (b : Fin 16) : a (ix1 ⟨1 + b.val, by omega⟩) = a (ix1 b.succ) :=
  congrArg a (congrArg ix1 (Fin.ext (Nat.add_comm _ _)))

/-- Words that start at 0 and grow by 0 to 512 at each of sixteen steps, the last at most 4096, are good boundaries. -/
theorem good (a : Fin 17 → BitVec 32) (zero : a 0 = 0#32) (last : (a 16).toInt ≤ 4096)
    (low : ∀ b : Fin 16, 0 ≤ (a b.succ - a b.castSucc).toInt) (high : ∀ b : Fin 16, (a b.succ - a b.castSucc).toInt ≤ 512) :
    Good (fun j => (a j).toNat) := by
  have step : ∀ b : Fin 16, (a b.castSucc).toNat ≤ 512 * b.val →
      (a b.castSucc).toNat ≤ (a b.succ).toNat ∧ (a b.succ).toNat ≤ (a b.castSucc).toNat + 512 := by
    intro b hb
    have h1 := low b
    have h2 := high b
    have := b.isLt
    rw [BitVec.toInt_eq_toNat_cond, BitVec.toNat_sub] at h1 h2
    have := (a b.succ).isLt
    split at h1 <;> omega
  have small : ∀ j : Fin 17, (a j).toNat ≤ 512 * j.val := by
    intro j
    induction j using Fin.induction with
    | zero => simp [zero]
    | succ b ih =>
      have := (step b ih).2
      simp only [Fin.val_castSucc] at ih
      simp only [Fin.val_succ]
      omega
  refine ⟨by simp [zero], ?_, fun b => (step b (small b.castSucc)).1, fun b => (step b (small b.castSucc)).2⟩
  have h16 := small 16
  rw [BitVec.toInt_eq_toNat_cond] at last
  change (a 16).toNat ≤ 4096
  change (a 16).toNat ≤ 512 * 16 at h16
  split at last <;> omega

/-! ## One pooling's scores -/

/-- The largest of the scores with minus infinity off the graph is the largest over the graph. -/
theorem fold_segment (a : Fin 17 → BitVec 32) (hc : Good (fun j => (a j).toNat)) (s : Fin 4096 → EReal) (b : Fin 16) :
    Finset.univ.fold max (⊥ : EReal) (fun i : Fin 4096 =>
        Scalar.select (IntOp.andi (IntOp.cmpi .sge (BitVec.ofNat 32 i.val) (a b.castSucc)) (IntOp.cmpi .slt (BitVec.ofNat 32 i.val) (a b.succ))) (s i) ⊥)
      = (segment (fun j => (a j).toNat) b).sup s := by
  have sm : ∀ j, (a j).toInt = ((a j).toNat : ℤ) := fun j =>
    WordCmp.toInt_eq_toNat_of_lt_half (lt_of_le_of_lt (hc.le j) (by norm_num))
  have hm : ∀ i : Fin 4096, Scalar.select (IntOp.andi (IntOp.cmpi .sge (BitVec.ofNat 32 i.val) (a b.castSucc)) (IntOp.cmpi .slt (BitVec.ofNat 32 i.val) (a b.succ))) (s i) ⊥
      = if InSeg (fun j => (a j).toNat) b i then s i else ⊥ := by
    intro i
    rw [WordCmp.cmpi_sge_eq, WordCmp.cmpi_slt_eq, sm, sm,
      WordCmp.toInt_ofNat_of_lt (by have := i.isLt; norm_num; omega), WordCmp.andi_ofBool]
    by_cases hi : InSeg (fun j => (a j).toNat) b i
    · have h1 := hi.1
      have h2 := hi.2
      rw [if_pos hi]
      simp only [Nat.cast_le, Nat.cast_lt]
      simp [h1, h2, Scalar.select]
    · rw [if_neg hi]
      have : ¬ ((a b.castSucc).toNat ≤ i.val ∧ i.val < (a b.succ).toNat) := hi
      simp only [Nat.cast_le, Nat.cast_lt, ← Bool.decide_and, this]
      simp [Scalar.select]
  simp only [hm]
  change Finset.univ.sup _ = _
  refine le_antisymm (Finset.sup_le fun i _ => ?_) (Finset.sup_le fun i hi => ?_)
  · split
    · rename_i h
      exact Finset.le_sup (f := s) (mem_segment.2 h)
    · exact bot_le
  · have h := Finset.le_sup (f := fun i => if InSeg (fun j => (a j).toNat) b i then s i else ⊥) (Finset.mem_univ i)
    simpa only [if_pos (mem_segment.1 hi)] using h

/-- The precondition's test of one graph's scores says that its largest is near the batch's. -/
theorem near (a : Fin 17 → BitVec 32) (hc : Good (fun j => (a j).toNat)) (s : Fin 4096 → EReal) (b : Fin 16)
    (h : a b.succ - a b.castSucc = 0#32 ∨ FloatOps.absf (F := Ideal) (φ := .f32) (top s) < (⊤ : EReal)
      ∧ top s - ((69 : ℝ) : EReal) ≤ (segment (fun j => (a j).toNat) b).sup s) : Near (fun j => (a j).toNat) s b := by
  rcases h with h | ⟨h1, h2⟩
  · left
    have e : a b.succ = a b.castSucc := by bv_omega
    simp only [e]
  · obtain ⟨t, ht⟩ := real_of_abs h1
    refine .inr ⟨t, ht, ?_⟩
    rw [ht] at h2
    exact_mod_cast h2

/-! ## The precondition -/

/-- The precondition read: good boundaries, and near scores in both poolings. -/
theorem decode (a0 : FVec Ideal S4096x256 .f32) (a1 : IVec S17 32) (a2 : FVec Ideal S256x256 .f32) (a3 : FVec Ideal S256 .f32)
    (a4 : FVec Ideal S256x256 .f32) (a5 : FVec Ideal S256 .f32) (a6 : FVec Ideal S256x256 .f32) (a7 : FVec Ideal S256 .f32)
    (a8 : FVec Ideal S256 .f32) (a9 : FVec Ideal S256x256 .f32) (a10 : FVec Ideal S256 .f32) (a11 : FVec Ideal S256x256 .f32)
    (f g : Fin 4096 → Fin 256 → EReal)
    (hf : f = dense (dense (fun i j => a0 (ix2 i j)) (fun i j => a2 (ix2 i j)) fun d => a3 (ix1 d)) (fun i j => a4 (ix2 i j)) fun d => a5 (ix1 d))
    (hg : g = dense (dense (fun i j => a0 (ix2 i j)) (fun i j => a2 (ix2 i j)) fun d => a3 (ix1 d)) (fun i j => a6 (ix2 i j)) fun d => a7 (ix1 d))
    (h : fn (F := Ideal) a0 a1 a2 a3 a4 a5 a6 a7 a8 a9 a10 a11 = fun _ => 1#1) :
    Good (fun j => (a1 (ix1 j)).toNat)
      ∧ (∀ b, Near (fun j => (a1 (ix1 j)).toNat) (score (fun d => a8 (ix1 d)) f) b)
      ∧ (∀ b, Near (fun j => (a1 (ix1 j)).toNat) (score (fun d => a10 (ix1 d)) g) b) := by
  have h0 := congrFun h ix0
  clear h
  have ew : ∀ x : Fin 4096, ∀ (w : FVec Ideal S256x256 .f32) (v a : FVec Ideal S256 .f32),
      (∑ k : Fin 256, max (∑ l : Fin 256, max (∑ n : Fin 256, a0 (ix2 x n) * a2 (ix2 n l) + a3 (ix1 l)) 0 * w (ix2 l k) + v (ix1 k)) 0 * a (ix1 k) : EReal)
        = score (fun d => a (ix1 d)) (dense (dense (fun i j => a0 (ix2 i j)) (fun i j => a2 (ix2 i j)) fun d => a3 (ix1 d)) (fun i j => w (ix2 i j)) fun d => v (ix1 d)) x := by
    intro x w v a
    exact Finset.sum_congr rfl fun k _ => mul_comm _ _
  have et : ∀ s : Fin 4096 → EReal, Finset.fold max (⊥ : EReal) s Finset.univ = top s := fun s => rfl
  have ec : constant (F := Ideal) S_ .f32 0xFF800000#32 ix0 = (⊥ : EReal) := ofBits_neg_inf
  pointwise [fn, fn_part1, fn_part2, fn_part3, fn_part4, fn_where] at h0
  simp only [ew, ofBits_neg_inf, ofBits_pos_inf, ofBits_69, et, id, ec] at h0
  simp only [IntOp.andi_eq_one, ori_one, fold_andi, Finset.mem_univ, true_imp_iff, forall_const, WordCmp.ofBool_decide_eq_one_iff] at h0
  obtain ⟨⟨⟨⟨⟨zero, last⟩, low⟩, high⟩, hP⟩, hR⟩ := h0
  simp only [next a1, WordCmp.cmpi_eq_eq, WordCmp.cmpi_sge_eq, WordCmp.cmpi_sle_eq, WordCmp.ofBool_decide_eq_one_iff] at zero last low high
  simp only [next a1] at hP hR
  have hc : Good (fun j => (a1 (ix1 j)).toNat) := good (fun j => a1 (ix1 j)) zero last low high
  refine ⟨hc, fun b => ?_, fun b => ?_⟩
  · have hb := hP b
    rw [WordCmp.cmpi_eq_eq, WordCmp.ofBool_decide_eq_one_iff] at hb
    refine near (fun j => a1 (ix1 j)) hc _ b (hb.imp_right fun h => ?_)
    subst hf
    refine ⟨h.1, h.2.trans (le_of_eq ?_)⟩
    rw [← fold_segment (fun j => a1 (ix1 j)) hc]
    rfl
  · have hb := hR b
    rw [WordCmp.cmpi_eq_eq, WordCmp.ofBool_decide_eq_one_iff] at hb
    refine near (fun j => a1 (ix1 j)) hc _ b (hb.imp_right fun h => ?_)
    subst hg
    refine ⟨h.1, h.2.trans (le_of_eq ?_)⟩
    rw [← fold_segment (fun j => a1 (ix1 j)) hc]
    rfl

end Cert.Boundaries

end
-- ==== Proof.Agree.lean ====
/-
  Where the two programs start from the same arguments and the precondition holds, each of the kernel's three result
  arrays is the reference's.
-/
module

public import proofs.«01_k».proof.Defs
public import proofs.«01_k».proof.Proof.KernelArrays
public import proofs.«01_k».proof.Proof.RefScores
public import proofs.«01_k».proof.Proof.Boundaries

@[expose] public section

set_option maxRecDepth 16384

noncomputable section

open Idealize.ShloMosaic Idealize.ShloMosaic.TcCoe Idealize.SL.Sem
open Idealize.ShloMosaic.StableHlo (launchContents)
open Cert.Pooling

namespace Cert.Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reference's arguments on device `c`, as its own terms read them. -/
abbrev args : Valuation Cert.ReferenceIdeal.τ Cert.ReferenceIdeal.sig (Elt Ideal) := launchContents m' c

/-- The two programs hold the same arguments on device `c`. -/
structure Same : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

variable {m m' c}

theorem bounds_eq (h : Same m m' c) : Cert.ReferenceIdeal.Scores.bounds (args m' c) = Cert.KernelIdeal.Arrays.cuts m c := by
  funext j
  exact congrArg (fun a : IVec Cert.KernelIdeal.S17 32 => (a (ix1 j)).toNat) h.a1

theorem feats_eq (h : Same m m' c) : Cert.ReferenceIdeal.Scores.feats (args m' c) = Cert.KernelIdeal.Arrays.feats m c := by
  unfold Cert.KernelIdeal.Arrays.feats
  rw [← h.a0, ← h.a2, ← h.a3]
  rfl

theorem featsP_eq (h : Same m m' c) : Cert.ReferenceIdeal.Scores.featsP (args m' c) = Cert.KernelIdeal.Arrays.featsP m c := by
  unfold Cert.KernelIdeal.Arrays.featsP
  rw [← feats_eq h, ← h.a4, ← h.a5]
  rfl

theorem featsR_eq (h : Same m m' c) : Cert.ReferenceIdeal.Scores.featsR (args m' c) = Cert.KernelIdeal.Arrays.featsR m c := by
  unfold Cert.KernelIdeal.Arrays.featsR
  rw [← feats_eq h, ← h.a6, ← h.a7]
  rfl

theorem scoresP_eq (h : Same m m' c) : Cert.ReferenceIdeal.Scores.scoresP (args m' c) = Cert.KernelIdeal.Arrays.scoresP m c := by
  unfold Cert.KernelIdeal.Arrays.scoresP
  rw [← featsP_eq h, ← h.a8]
  rfl

theorem scoresR_eq (h : Same m m' c) : Cert.ReferenceIdeal.Scores.scoresR (args m' c) = Cert.KernelIdeal.Arrays.scoresR m c := by
  unfold Cert.KernelIdeal.Arrays.scoresR
  rw [← featsR_eq h, ← h.a10]
  rfl

/-- The precondition, over the kernel's own functions of its arguments. -/
theorem pre_read (hpre : Cert.Pre_KernelIdeal_scores_and_boundaries (hPre_scores_and_boundaries := Cert.Pre_scores_and_boundaries.Gen.facts) m)
    (c : Dev Cert.KernelIdeal.nD) : Good (Cert.KernelIdeal.Arrays.cuts m c)
      ∧ (∀ b, Near (Cert.KernelIdeal.Arrays.cuts m c) (Cert.KernelIdeal.Arrays.scoresP m c) b)
      ∧ (∀ b, Near (Cert.KernelIdeal.Arrays.cuts m c) (Cert.KernelIdeal.Arrays.scoresR m c) b) :=
  Cert.Boundaries.decode _ _ _ _ _ _ _ _ _ _ _ _ (Cert.KernelIdeal.Arrays.featsP m c) (Cert.KernelIdeal.Arrays.featsR m c) rfl rfl (hpre c)

/-- The first result of the two: the mean features of each graph. -/
theorem keys (h : Same m m' c) (hc : Good (Cert.KernelIdeal.Arrays.cuts m c)) :
    Cert.ReferenceIdeal.Scores.means (Cert.ReferenceIdeal.Value.res_main_v195 (args m' c))
        (Cert.ReferenceIdeal.Scores.copies (args m' c (Proc.devRef .tc Cert.ReferenceIdeal.main_arg1)) (Cert.ReferenceIdeal.Value.res_main_v4 (args m' c)))
      = (Cert.KernelIdeal.Gen.dats m 0 c).arrAt 13 (Cert.KernelIdeal.cfgs 0).N := by
  rw [Cert.KernelIdeal.Arrays.final_keys hc]
  funext j
  refine (congrArg _ (eq_ix2 j)).trans ((Cert.ReferenceIdeal.Scores.keys_read (bounds_eq h ▸ hc) (j 0) (j 1)).trans ?_)
  rw [bounds_eq h, feats_eq h]
  exact (mean_eq_rowMean hc _ _ _).symm

/-- The second result of the two: the first encoder's attention pooling times its query matrix. -/
theorem queriesP (h : Same m m' c) (hc : Good (Cert.KernelIdeal.Arrays.cuts m c))
    (hn : ∀ b, Near (Cert.KernelIdeal.Arrays.cuts m c) (Cert.KernelIdeal.Arrays.scoresP m c) b) :
    Cert.ReferenceIdeal.Scores.queries (Cert.ReferenceIdeal.Value.res_main_v69 (args m' c)) (Cert.ReferenceIdeal.Value.res_main_v42 (args m' c))
        (args m' c (Proc.devRef .tc Cert.ReferenceIdeal.main_arg9))
      = (Cert.KernelIdeal.Gen.dats m 0 c).arrAt 14 (Cert.KernelIdeal.cfgs 0).N := by
  rw [Cert.KernelIdeal.Arrays.final_p hc]
  funext j
  refine (congrArg _ (eq_ix2 j)).trans ((Cert.ReferenceIdeal.Scores.p_read (bounds_eq h ▸ hc) (j 0) (j 1)).trans ?_)
  rw [bounds_eq h, featsP_eq h, scoresP_eq h, ← h.a9]
  exact Finset.sum_congr rfl fun k _ => congrArg (· * _)
    (pooled_eq_rowPooled hc _ _ (fun i k => dense_nonneg _ _ _ i k) _ (hn (j 0)) k).symm

/-- The third result of the two: the second encoder's attention pooling times its query matrix. -/
theorem queriesR (h : Same m m' c) (hc : Good (Cert.KernelIdeal.Arrays.cuts m c))
    (hn : ∀ b, Near (Cert.KernelIdeal.Arrays.cuts m c) (Cert.KernelIdeal.Arrays.scoresR m c) b) :
    Cert.ReferenceIdeal.Scores.queries (Cert.ReferenceIdeal.Value.res_main_v140 (args m' c)) (Cert.ReferenceIdeal.Value.res_main_v113 (args m' c))
        (args m' c (Proc.devRef .tc Cert.ReferenceIdeal.main_arg11))
      = (Cert.KernelIdeal.Gen.dats m 0 c).arrAt 15 (Cert.KernelIdeal.cfgs 0).N := by
  rw [Cert.KernelIdeal.Arrays.final_r hc]
  funext j
  refine (congrArg _ (eq_ix2 j)).trans ((Cert.ReferenceIdeal.Scores.r_read (bounds_eq h ▸ hc) (j 0) (j 1)).trans ?_)
  rw [bounds_eq h, featsR_eq h, scoresR_eq h, ← h.a11]
  exact Finset.sum_congr rfl fun k _ => congrArg (· * _)
    (pooled_eq_rowPooled hc _ _ (fun i k => dense_nonneg _ _ _ i k) _ (hn (j 0)) k).symm

end Cert.Agree

end
-- ==== Proof.lean ====
/-
  The certificate: the kernel and its idealization run and leave their arguments alone, the reference does, the two
  kernels are the same program, and under the precondition all three of the kernel's results are the reference's.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_scores_and_boundaries
public import proofs.«01_k».proof.Proof.Agree
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

/-- The kernel runs, its arguments end unchanged and every semaphore ends at zero. -/
theorem frame_kernel : Cert.quiescent_Kernel (hKernel := Cert.Kernel.Gen.facts) := fun m ρ _ => Cert.Kernel.Gen.frame m ρ

/-- The same of the idealized kernel. -/
theorem frame_ideal : Cert.quiescent_KernelIdeal (hKernelIdeal := Cert.KernelIdeal.Gen.facts) :=
  fun m ρ _ => Cert.KernelIdeal.Gen.frame m ρ

/-- The same of the reference. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- Under the precondition all three results of the idealized kernel are the reference's. -/
theorem agree : Cert.algebraic_KernelIdeal_ReferenceIdeal_pre_scores_and_boundaries (hKernelIdeal := Cert.KernelIdeal.Gen.facts)
    (hReferenceIdeal := Cert.ReferenceIdeal.Gen.facts) (hPre_scores_and_boundaries := Cert.Pre_scores_and_boundaries.Gen.facts) := by
  intro m g m' g' hpre hagree
  refine ⟨_, _, _, Cert.KernelIdeal.Value.run_blocks m g, (θ_run Cert.ReferenceIdeal.defs _ _).mono (fun r h c => ?_)
    (Cert.ReferenceIdeal.Value.run (F := Ideal) m' g')⟩
  obtain ⟨e0, e1, e2, e3, e4, e5, e6, e7, e8, e9, e10, e11⟩ := hagree c
  have same : Cert.Agree.Same m m' c := ⟨e0, e1, e2, e3, e4, e5, e6, e7, e8, e9, e10, e11⟩
  obtain ⟨hc, hp, hr⟩ := Cert.Agree.pre_read hpre c
  exact ⟨(h c).1.trans (Cert.Agree.keys same hc), (h c).2.1.trans (Cert.Agree.queriesP same hc hp),
    (h c).2.2.1.trans (Cert.Agree.queriesR same hc hr), (h c).2.2.2⟩

/-- Everything the certificate claims. -/
theorem claim : Cert.Claim :=
  ⟨Cert.Kernel.Gen.facts, Cert.KernelIdeal.Gen.facts, Cert.ReferenceIdeal.Gen.facts, Cert.Pre_scores_and_boundaries.Gen.facts,
    frame_kernel, frame_ideal, fun m ρ _ => frame_ideal m ρ trivial, frame_reference, fun m ρ _ => frame_reference m ρ trivial,
    trivial, agree⟩

end Cert.Proof

end
